-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) (main_arg2 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S4x4096x3 .f32 := Host.absf main_arg2
  let main_cst_2 : FVec F S_ .f32 := constant S_ .f32 0x7F800000#32
  let main_v10 : FVec F S4x4096x3 .f32 := broadcastInDim S4x4096x3 ![] bcast_S_S4x4096x3 main_cst_2
  let main_v11 : IVec S4x4096x3 1 := cmpf .olt main_v9 main_v10
  let main_c_3 : IVec S_ 1 := constantI S_ 1 1#1
  let main_v12 : IVec S_ 1 := (fun x v => Host.reduce IntOp.andi x v reducesTo_S4x4096x3_S_d0_1_2 h_S_) main_v11 main_c_3
  let main_v13 : IVec S_ 1 := andi main_v8 main_v12
  main_v13
-- ==== Kernel.lean ====
abbrev S4x4096x3 : Shape := ⟨3, ![4, 4096, 3]⟩
abbrev S1x1 : Shape := ⟨2, ![1, 1]⟩
abbrev S_ : Shape := ⟨0, ![]⟩
abbrev S1x1024x3 : Shape := ⟨3, ![1, 1024, 3]⟩
abbrev S1x4096x3 : Shape := ⟨3, ![1, 4096, 3]⟩
abbrev S8x4096 : Shape := ⟨2, ![8, 4096]⟩
abbrev S1x4096 : Shape := ⟨2, ![1, 4096]⟩
abbrev S4096x3 : Shape := ⟨2, ![4096, 3]⟩
abbrev S3x4096 : Shape := ⟨2, ![3, 4096]⟩
abbrev S1024x3 : Shape := ⟨2, ![1024, 3]⟩
abbrev S1024x1 : Shape := ⟨2, ![1024, 1]⟩
abbrev S1024x4096 : Shape := ⟨2, ![1024, 4096]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S4096 : Shape := ⟨1, ![4096]⟩
abbrev S1x1x4096 : Shape := ⟨3, ![1, 1, 4096]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S1x1, .f32⟩
  | .hbm, ⟨4, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x4096x3, .f32⟩
  | .local _ .vmem, ⟨5, _⟩ => ⟨S1x4096x3, .f32⟩
  | .local _ .vmem, ⟨6, _⟩ => ⟨S1x1, .f32⟩
  | .local _ .vmem, ⟨7, _⟩ => ⟨S8x4096, .f32⟩
  | .local _ .vmem, ⟨8, _⟩ => ⟨S1x4096, .f32⟩
  | .local _ .vmem, ⟨9, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4 : Shape := ⟨1, ![4]⟩
abbrev S4x1x1 : Shape := ⟨3, ![4, 1, 1]⟩
abbrev S4x4096x1x1 : Shape := ⟨4, ![4, 4096, 1, 1]⟩
abbrev S4x4096x1x2 : Shape := ⟨4, ![4, 4096, 1, 2]⟩
abbrev S4x4096x1x3 : Shape := ⟨4, ![4, 4096, 1, 3]⟩

abbrev nBuf : Space → Nat
  | .hbm => 117
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S4x4096x3, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S4x4096x3, .f32⟩
  | .hbm, ⟨9, _⟩ => ⟨S_, .f32⟩
  | .hbm, ⟨10, _⟩ => ⟨S4x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x1, .f32⟩
  | .hbm, ⟨22, _⟩ => ⟨S4x4096x1, .i32⟩
  | .hbm, ⟨23, _⟩ => ⟨S4, .i32⟩
  | .hbm, ⟨24, _⟩ => ⟨S4x1x1, .i32⟩
  | .hbm, ⟨25, _⟩ => ⟨S_, .i32⟩
  | .hbm, ⟨26, _⟩ => ⟨S4x1x1, .i32⟩
  | .hbm, ⟨27, _⟩ => ⟨S4x1x1, .i1⟩
  | .hbm, ⟨28, _⟩ => ⟨S_, .i32⟩
  | .hbm, ⟨29, _⟩ => ⟨S4x1x1, .i32⟩
  | .hbm, ⟨30, _⟩ => ⟨S4x1x1, .i32⟩
  | .hbm, ⟨31, _⟩ => ⟨S4x1x1, .i32⟩
  | .hbm, ⟨32, _⟩ => ⟨S_, .i32⟩
  | .hbm, ⟨33, _⟩ => ⟨S4x4096x1, .i32⟩
  | .hbm, ⟨34, _⟩ => ⟨S4x4096x1, .i1⟩
  | .hbm, ⟨35, _⟩ => ⟨S_, .i32⟩
  | .hbm, ⟨36, _⟩ => ⟨S4x4096x1, .i32⟩
  | .hbm, ⟨37, _⟩ => ⟨S4x4096x1, .i32⟩
  | .hbm, ⟨38, _⟩ => ⟨S4x4096x1, .i32⟩
  | .hbm, ⟨39, _⟩ => ⟨S4x4096x1, .i32⟩
  | .hbm, ⟨40, _⟩ => ⟨S4x4096x1x1, .i32⟩
  | .hbm, ⟨41, _⟩ => ⟨S4x4096x1x1, .i32⟩
  | .hbm, ⟨42, _⟩ => ⟨S4x4096x1x2, .i32⟩
  | .hbm, ⟨43, _⟩ => ⟨S4x4096x1x3, .f32⟩
  | .hbm, ⟨44, _⟩ => ⟨S4x4096x1x3, .f32⟩
  | .hbm, ⟨45, _⟩ => ⟨S4x4096x1x3, .f32⟩
  | .hbm, ⟨46, _⟩ => ⟨S4x4096x1x3, .f32⟩
  | .hbm, ⟨47, _⟩ => ⟨S4x4096x1x3, .f32⟩
  | .hbm, ⟨48, _⟩ => ⟨S_, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S_, .f32⟩
  | .hbm, ⟨54, _⟩ => ⟨S4x4096, .f32⟩
  | .hbm, ⟨55, _⟩ => ⟨S_, .f32⟩
  | .hbm, ⟨56, _⟩ => ⟨S4x4096, .f32⟩
  | .hbm, ⟨57, _⟩ => ⟨S4x4096, .f32⟩
  | .hbm, ⟨58, _⟩ => ⟨S4x4096x3, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S4x4096x3, .f32⟩
  | .hbm, ⟨63, _⟩ => ⟨S_, .f32⟩
  | .hbm, ⟨64, _⟩ => ⟨S4x4096, .f32⟩
  | .hbm, ⟨65, _⟩ => ⟨S4x1x4096, .f32⟩
  | .hbm, ⟨66, _⟩ => ⟨S4x4096x4096, .f32⟩
  | .hbm, ⟨67, _⟩ => ⟨S4x4096x4096, .f32⟩
  | .hbm, ⟨68, _⟩ => ⟨S4x4096x4096, .f32⟩
  | .hbm, ⟨69, _⟩ => ⟨S4x4096x4096, .f32⟩
  | .hbm, ⟨70, _⟩ => ⟨S_, .f32⟩
  | .hbm, ⟨71, _⟩ => ⟨S4x4096x4096, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S4x4096x1, .f32⟩
  | .hbm, ⟨76, _⟩ => ⟨S4x4096x1, .i32⟩
  | .hbm, ⟨77, _⟩ => ⟨S4, .i32⟩
  | .hbm, ⟨78, _⟩ => ⟨S4x1x1, .i32⟩
  | .hbm, ⟨79, _⟩ => ⟨S_, .i32⟩
  | .hbm, ⟨80, _⟩ => ⟨S4x1x1, .i32⟩
  | .hbm, ⟨81, _⟩ => ⟨S4x1x1, .i1⟩
  | .hbm, ⟨82, _⟩ => ⟨S_, .i32⟩
  | .hbm, ⟨83, _⟩ => ⟨S4x1x1, .i32⟩
  | .hbm, ⟨84, _⟩ => ⟨S4x1x1, .i32⟩
  | .hbm, ⟨85, _⟩ => ⟨S4x1x1, .i32⟩
  | .hbm, ⟨86, _⟩ => ⟨S_, .i32⟩
  | .hbm, ⟨87, _⟩ => ⟨S4x4096x1, .i32⟩
  | .hbm, ⟨88, _⟩ => ⟨S4x4096x1, .i1⟩
  | .hbm, ⟨89, _⟩ => ⟨S_, .i32⟩
  | .hbm, ⟨90, _⟩ => ⟨S4x4096x1, .i32⟩
  | .hbm, ⟨91, _⟩ => ⟨S4x4096x1, .i32⟩
  | .hbm, ⟨92, _⟩ => ⟨S4x4096x1, .i32⟩
  | .hbm, ⟨93, _⟩ => ⟨S4x4096x1, .i32⟩
  | .hbm, ⟨94, _⟩ => ⟨S4x4096x1x1, .i32⟩
  | .hbm, ⟨95, _⟩ => ⟨S4x4096x1x1, .i32⟩
  | .hbm, ⟨96, _⟩ => ⟨S4x4096x1x2, .i32⟩
  | .hbm, ⟨97, _⟩ => ⟨S4x4096x1x3, .f32⟩
  | .hbm, ⟨98, _⟩ => ⟨S4x4096x1x3, .f32⟩
  | .hbm, ⟨99, _⟩ => ⟨S4x4096x1x3, .f32⟩
  | .hbm, ⟨100, _⟩ => ⟨S4x4096x1x3, .f32⟩
  | .hbm, ⟨101, _⟩ => ⟨S4x4096x1x3, .f32⟩
  | .hbm, ⟨102, _⟩ => ⟨S_, .f32⟩
  | .hbm, ⟨103, _⟩ => ⟨S4x4096x1, .f32⟩
  | .hbm, ⟨104, _⟩ => ⟨S_, .f32⟩
  | .hbm, ⟨105, _⟩ => ⟨S4x4096x1, .f32⟩
  | .hbm, ⟨106, _⟩ => ⟨S4x4096x1, .f32⟩
  | .hbm, ⟨107, _⟩ => ⟨S_, .f32⟩
  | .hbm, ⟨108, _⟩ => ⟨S4x4096, .f32⟩
  | .hbm, ⟨109, _⟩ => ⟨S_, .f32⟩
  | .hbm, ⟨110, _⟩ => ⟨S4x4096, .f32⟩
  | .hbm, ⟨111, _⟩ => ⟨S4x4096, .f32⟩
  | .hbm, ⟨112, _⟩ => ⟨S4x4096, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_values_12 : Ref sig .tc := ⟨.hbm, 75, rfl⟩
abbrev main_indices_13 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_v58 : Ref sig .tc := ⟨.hbm, 80, rfl⟩
abbrev main_v59 : Ref sig .tc := ⟨.hbm, 81, rfl⟩
abbrev main_c_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_16 : Ref sig .tc := ⟨.hbm, 86, rfl⟩
abbrev main_v63 : Ref sig .tc := ⟨.hbm, 87, rfl⟩
abbrev main_v64 : Ref sig .tc := ⟨.hbm, 88, rfl⟩
abbrev main_c_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_v79 : Ref sig .tc := ⟨.hbm, 106, rfl⟩
abbrev main_cst_20 : Ref sig .tc := ⟨.hbm, 107, rfl⟩
abbrev main_v80 : Ref sig .tc := ⟨.hbm, 108, rfl⟩
abbrev main_cst_21 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_22 : Ref sig .tc := ⟨.hbm, 113, rfl⟩
abbrev main_v84 : Ref sig .tc := ⟨.hbm, 114, rfl⟩
abbrev main_cst_23 : Ref sig .tc := ⟨.hbm, 115, rfl⟩
abbrev main_v85 : Ref sig .tc := ⟨.hbm, 116, rfl⟩

abbrev nD : Nat := 1
abbrev τ : Topo := Topo.v7x

variable {F : FTy → Type} [FloatOps F]
-- ==== Proof.KernelIdeal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Tactic.Stretches

@[expose] public section

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's first and third branch: the point's second coordinate is zero. -/
abbrev atFirst (i : grid0.Coords) : Prop := Scalar.cmpi .ne (Scalar.extui (Scalar.cmpi .eq (BitVec.ofNat 32 (i 1).val) 0#32)) 0#32 = 1#1
/-- The condition of the second branch: both coordinates are zero. -/
abbrev atStart (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
/-- The condition of the fourth branch: the second coordinate is not zero. -/
abbrev atLater (i : grid0.Coords) : Prop := Scalar.cmpi .ne (Scalar.extui (Scalar.cmpi .ne (BitVec.ofNat 32 (i 1).val) 0#32)) 0#32 = 1#1
/-- The condition of the last branch: the second coordinate is three. -/
abbrev atLast (i : grid0.Coords) : Prop := Scalar.cmpi .ne (Scalar.extui (Scalar.cmpi .eq (BitVec.ofNat 32 (i 1).val) 3#32)) 0#32 = 1#1

/-! ## What one point computes -/

/-- The point's squared distances: those of the block of (source + flow) points to the batch's target points. -/
abbrev dist2 (x0 x1 : Vec F S1x1024x3 .f32) (x2 : Vec F S1x4096x3 .f32) : FVec F S1024x4096 .f32 :=
  k0_pay9 x0 x1 (k0_pay4 x2) (k0_pay5 x2)
/-- The point's corrections: the inner products formed by multiplications, less those of the matrix unit. -/
abbrev corr (x0 x1 : Vec F S1x1024x3 .f32) (x2 : Vec F S1x4096x3 .f32) : FVec F S1024x4096 .f32 :=
  k0_pay10 x0 x1 (k0_pay4 x2)

/-- The result with the point's row part added. -/
abbrev addRows (x0 x1 : Vec F S1x1024x3 .f32) (x2 : Vec F S1x4096x3 .f32) (o : Vec F S1x1 .f32) : Vec F S1x1 .f32 :=
  k0_pay1 (k0_pay11 (dist2 x0 x1 x2) (corr x0 x1 x2)) o
/-- The column minima after a batch's first block. -/
abbrev colFirst (x0 x1 : Vec F S1x1024x3 .f32) (x2 : Vec F S1x4096x3 .f32) : Vec F S1x4096 .f32 := k0_pay15 (dist2 x0 x1 x2)
/-- The corrected column minima after a batch's first block. -/
abbrev exFirst (x0 x1 : Vec F S1x1024x3 .f32) (x2 : Vec F S1x4096x3 .f32) : Vec F S1x4096 .f32 := k0_pay16 (dist2 x0 x1 x2) (corr x0 x1 x2)
/-- The column minima after a later block, from those before it. -/
abbrev colLater (x0 x1 : Vec F S1x1024x3 .f32) (x2 : Vec F S1x4096x3 .f32) (s1 : Vec F S1x4096 .f32) : Vec F S1x4096 .f32 :=
  k0_pay19 (dist2 x0 x1 x2) s1 s1
/-- The corrected column minima after a later block, from both carried rows before it. -/
abbrev exLater (x0 x1 : Vec F S1x1024x3 .f32) (x2 : Vec F S1x4096x3 .f32) (s1 s2 : Vec F S1x4096 .f32) : Vec F S1x4096 .f32 :=
  k0_pay18 (dist2 x0 x1 x2) (corr x0 x1 x2) s1 s2

/-- The rows of the first scratch that hold the transposed target points, and the row that holds their squared norms. -/
abbrev rowsT : Rect S8x4096 := Rect.unit (s := S8x4096) ![0, 0] S3x4096.size inb_S8x4096_S3x4096_0_0
abbrev rowN : Rect S8x4096 := Rect.unit (s := S8x4096) ![3, 0] S1x4096.size inb_S8x4096_S1x4096_3_0

/-- The first scratch holds the target block `x2`: its coordinates transposed in rows 0 to 2, its squared norms in row 3. -/
def Holds (g : Vec F S8x4096 .f32) (x2 : Vec F S1x4096x3 .f32) : Prop :=
  View.ld g rowsT = k0_pay4 x2 ∧ View.ld g rowN = k0_pay5 x2

/-! ## Reading buffers back -/

/-- A buffer whose last store covers it whole reads that store's payload. -/
theorem read_whole {S : Shape} {e : EltTy} (v : View sig .tc .vmem S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, View.mem_set_unit_zero h inb y⟩]
  exact View.canon_cons_unit_zero h inb w L

theorem zero2 : (![0, 0] : Fin 2 → Nat) = fun _ => 0 := funext fun a => by fin_cases a <;> rfl
theorem zero3 : (![0, 0, 0] : Fin 3 → Nat) = fun _ => 0 := funext fun a => by fin_cases a <;> rfl

/-- A load of a whole buffer reads its contents. -/
theorem load_whole {S : Shape} {e : EltTy} (v : View sig .tc .vmem S e) (f : v.ty.Contents (Elt F))
    {off : Fin S.rank → Nat} (h : off = fun _ => 0) (inb : ∀ a, off a + S.size a ≤ S.size a) :
    View.readAt (Elt F) v (Rect.unit off S.size inb).toLoadRect f = v.read (Elt F) f :=
  View.ld_unit_zero h inb (v.read (Elt F) f)

/-- A load of the result, or of a carried row, behind a store that covers it reads that store's payload. -/
theorem loadCov_one (v : View sig .tc .vmem S1x1 .f32) (w : Vec F S1x1 .f32) (L : List (View.Piece (Elt F) S1x1 .f32)) :
    v.readCov ((⟨Rect.unit (s := S1x1) ![0, 0] ![1, 1] inb_S1x1_S1x1_0_0, w⟩ : View.Piece (Elt F) S1x1 .f32) :: L) (Rect.unit (s := S1x1) ![0, 0] ![1, 1] inb_S1x1_S1x1_0_0).toLoadRect = w :=
  View.readCov_cons_toLoadRect v (Rect.unit (s := S1x1) ![0, 0] ![1, 1] inb_S1x1_S1x1_0_0) w L
theorem loadCov_row (v : View sig .tc .vmem S1x4096 .f32) (w : Vec F S1x4096 .f32) (L : List (View.Piece (Elt F) S1x4096 .f32)) :
    v.readCov ((⟨Rect.unit (s := S1x4096) ![0, 0] ![1, 4096] inb_S1x4096_S1x4096_0_0, w⟩ : View.Piece (Elt F) S1x4096 .f32) :: L) (Rect.unit (s := S1x4096) ![0, 0] ![1, 4096] inb_S1x4096_S1x4096_0_0).toLoadRect = w :=
  View.readCov_cons_toLoadRect v (Rect.unit (s := S1x4096) ![0, 0] ![1, 4096] inb_S1x4096_S1x4096_0_0) w L

/-- Rows 0 to 2 and row 3 do not meet. -/
theorem rows_disjoint : Disjoint rowN.set rowsT.set := by
  rw [Finset.disjoint_left]
  intro y h h'
  rw [Rect.mem_set_unit] at h h'
  have a := (h 0).1; have b := (h' 0).2
  simp at a b; omega

/-- After both stores the first scratch holds the target block, whatever it held before. -/
theorem holds_stored (v : View sig .tc .vmem S8x4096 .f32) (f : v.ty.Contents (Elt F)) (x2 : Vec F S1x4096x3 .f32) :
    Holds (v.read (Elt F) (v.writes (Elt F) f [⟨rowN, k0_pay5 x2⟩, ⟨rowsT, k0_pay4 x2⟩])) x2 := by
  refine ⟨funext fun x => ?_, funext fun x => ?_⟩
  · have hn : rowsT.emb x ∉ Finset.univ.map rowN.emb := by
      rw [Rect.map_emb_univ]
      exact Finset.disjoint_right.mp rows_disjoint (by rw [← Rect.map_emb_univ]; exact Finset.mem_map_of_mem _ (Finset.mem_univ x))
    show v.read (Elt F) _ (rowsT.emb x) = _
    rw [View.writes_cons, View.read_slice_write_of_not_mem _ _ _ _ hn, View.read_writes_cons_emb]
  · show v.read (Elt F) _ (rowN.emb x) = _
    rw [View.read_writes_cons_emb]

/-- The rows of the target block, loaded behind both stores. -/
theorem load_rowsT (v : View sig .tc .vmem S8x4096 .f32) (a : Vec F S3x4096 .f32) (b : Vec F S1x4096 .f32) :
    v.readCov [(⟨Rect.unit (s := S8x4096) ![3, 0] ![1, 4096] inb_S8x4096_S1x4096_3_0, b⟩ : View.Piece (Elt F) S8x4096 .f32), ⟨Rect.unit (s := S8x4096) ![0, 0] ![3, 4096] inb_S8x4096_S3x4096_0_0, a⟩] (Rect.unit (s := S8x4096) ![0, 0] ![3, 4096] inb_S8x4096_S3x4096_0_0).toLoadRect = a := by
  exact (View.readCov_cons_of_disjoint v ⟨rowN, b⟩ [⟨rowsT, a⟩] rowsT.toLoadRect rows_disjoint).trans (View.readCov_cons_toLoadRect v rowsT a [])

/-- The row of the squared norms, loaded behind both stores. -/
theorem load_rowN (v : View sig .tc .vmem S8x4096 .f32) (a : Vec F S3x4096 .f32) (b : Vec F S1x4096 .f32) :
    v.readCov [(⟨Rect.unit (s := S8x4096) ![3, 0] ![1, 4096] inb_S8x4096_S1x4096_3_0, b⟩ : View.Piece (Elt F) S8x4096 .f32), ⟨Rect.unit (s := S8x4096) ![0, 0] ![3, 4096] inb_S8x4096_S3x4096_0_0, a⟩] (Rect.unit (s := S8x4096) ![3, 0] ![1, 4096] inb_S8x4096_S1x4096_3_0).toLoadRect = b :=
  View.readCov_cons_toLoadRect v rowN b [⟨rowsT, a⟩]

/-! ## The body, case by case -/

set_option maxHeartbeats 1200000 in
/-- The body at the first point of all: the result starts from zero, the target block is stored, the column rows start. -/
theorem runA (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x4096x3 .f32) (harg4 : arg4.IsWhole) (arg5 : Memref sig .tc .vmem S1x1 .f32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole)
    (h0 : atFirst i) (h1 : atStart i) (h3 : ¬ atLater i) (h4 : ¬ atLast i)
    (x0 x1 : Vec F S1x1024x3 .f32) (x2 : Vec F S1x4096x3 .f32) (xo : Vec F S1x1 .f32) (g : Vec F S8x4096 .f32) (xs1 xs2 : Vec F S1x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare g ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2
            ∗ owns (c : Thread nD τ) arg5 fullShare (addRows x0 x1 x2 k0_pay14)
            ∗ (∃ g', ⌜Holds g' x2⌝ ∗ owns (c : Thread nD τ) arg6 fullShare g')
            ∗ owns (c : Thread nD τ) arg7 fullShare (colFirst x0 x1 x2) ∗ owns (c : Thread nD τ) arg8 fullShare (exFirst x0 x1 x2)) -∗ K ⟨⟩))
      ⊢ wp frame (wpE (defs₀ (F := F)) Variants.none c none) E (cc0__chamfer_body i arg2 harg2 arg3 harg3 arg4 harg4 arg5 harg5 arg6 harg6 arg7 harg7 arg8 harg8) K := by
  simp only [cc0__chamfer_body_eq_skeleton]; unfold cc0__chamfer_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
  sl_exec (disch := first | sl_exact h0 | sl_exact h1 | sl_exact h3 | sl_exact h4)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  have e0 := (load_whole arg2.view _ zero3 inb_S1x1024x3_S1x1024x3_0_0_0).trans hf0
  have e1 := (load_whole arg3.view _ zero3 inb_S1x1024x3_S1x1024x3_0_0_0).trans hf1
  have e2 := (load_whole arg4.view _ zero3 inb_S1x4096x3_S1x4096x3_0_0_0).trans hf2
  have eo := (load_whole arg5.view _ zero2 inb_S1x1_S1x1_0_0).trans hf3
  have eT := load_rowsT arg6.view (k0_pay4 x2) (k0_pay5 x2)
  have eN := load_rowN arg6.view (k0_pay4 x2) (k0_pay5 x2)
  have eZ := loadCov_one arg5.view (k0_pay14 (F := F)) []
  isplitl [H3]
  · iexists _; isplitr; swap; · iexact H3
    ipureintro; sl_open_run
    rw [read_whole _ _ zero2]
    simp only [e0, e1, e2, eT, eN, eZ]
  isplitl [HS0]
  · iexists _; isplitr; swap; · iexists _; isplitr; swap; · iexact HS0
                                ipureintro; rfl
    ipureintro
    sl_open_run
    rw [e2]; exact holds_stored _ _ _
  isplitl [HS1]
  · iexists _; isplitr; swap; · iexact HS1
    ipureintro; sl_open_run
    rw [read_whole _ _ zero2]
    simp only [e0, e1, e2, eT, eN]
  iexists _; isplitr; swap; · iexact HS2
  ipureintro; sl_open_run
  rw [read_whole _ _ zero2]
  simp only [e0, e1, e2, eT, eN]

set_option maxHeartbeats 1200000 in
/-- The body at the first point of a later batch: the target block is stored, the column rows start anew. -/
theorem runB (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x4096x3 .f32) (harg4 : arg4.IsWhole) (arg5 : Memref sig .tc .vmem S1x1 .f32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole)
    (h0 : atFirst i) (h1 : ¬ atStart i) (h3 : ¬ atLater i) (h4 : ¬ atLast i)
    (x0 x1 : Vec F S1x1024x3 .f32) (x2 : Vec F S1x4096x3 .f32) (xo : Vec F S1x1 .f32) (g : Vec F S8x4096 .f32) (xs1 xs2 : Vec F S1x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare g ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2
            ∗ owns (c : Thread nD τ) arg5 fullShare (addRows x0 x1 x2 xo)
            ∗ (∃ g', ⌜Holds g' x2⌝ ∗ owns (c : Thread nD τ) arg6 fullShare g')
            ∗ owns (c : Thread nD τ) arg7 fullShare (colFirst x0 x1 x2) ∗ owns (c : Thread nD τ) arg8 fullShare (exFirst x0 x1 x2)) -∗ K ⟨⟩))
      ⊢ wp frame (wpE (defs₀ (F := F)) Variants.none c none) E (cc0__chamfer_body i arg2 harg2 arg3 harg3 arg4 harg4 arg5 harg5 arg6 harg6 arg7 harg7 arg8 harg8) K := by
  simp only [cc0__chamfer_body_eq_skeleton]; unfold cc0__chamfer_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
  sl_exec (disch := first | sl_exact h0 | sl_exact h1 | sl_exact h3 | sl_exact h4)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  have e0 := (load_whole arg2.view _ zero3 inb_S1x1024x3_S1x1024x3_0_0_0).trans hf0
  have e1 := (load_whole arg3.view _ zero3 inb_S1x1024x3_S1x1024x3_0_0_0).trans hf1
  have e2 := (load_whole arg4.view _ zero3 inb_S1x4096x3_S1x4096x3_0_0_0).trans hf2
  have eo := (load_whole arg5.view _ zero2 inb_S1x1_S1x1_0_0).trans hf3
  have eT := load_rowsT arg6.view (k0_pay4 x2) (k0_pay5 x2)
  have eN := load_rowN arg6.view (k0_pay4 x2) (k0_pay5 x2)
  have eZ := loadCov_one arg5.view (k0_pay14 (F := F)) []
  isplitl [H3]
  · iexists _; isplitr; swap; · iexact H3
    ipureintro; sl_open_run
    rw [read_whole _ _ zero2]
    simp only [e0, e1, e2, eT, eN, eo]
  isplitl [HS0]
  · iexists _; isplitr; swap; · iexists _; isplitr; swap; · iexact HS0
                                ipureintro; rfl
    ipureintro
    sl_open_run
    rw [e2]; exact holds_stored _ _ _
  isplitl [HS1]
  · iexists _; isplitr; swap; · iexact HS1
    ipureintro; sl_open_run
    rw [read_whole _ _ zero2]
    simp only [e0, e1, e2, eT, eN]
  iexists _; isplitr; swap; · iexact HS2
  ipureintro; sl_open_run
  rw [read_whole _ _ zero2]
  simp only [e0, e1, e2, eT, eN]

set_option maxHeartbeats 1200000 in
/-- The body at a middle point of a batch: the column rows take the point's minima in. -/
theorem runC (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x4096x3 .f32) (harg4 : arg4.IsWhole) (arg5 : Memref sig .tc .vmem S1x1 .f32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole)
    (h0 : ¬ atFirst i) (h1 : ¬ atStart i) (h3 : atLater i) (h4 : ¬ atLast i)
    (x0 x1 : Vec F S1x1024x3 .f32) (x2 : Vec F S1x4096x3 .f32) (xo : Vec F S1x1 .f32) (g : Vec F S8x4096 .f32) (xs1 xs2 : Vec F S1x4096 .f32) (hg : Holds g x2) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare g ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2
            ∗ owns (c : Thread nD τ) arg5 fullShare (addRows x0 x1 x2 xo)
            ∗ (∃ g', ⌜Holds g' x2⌝ ∗ owns (c : Thread nD τ) arg6 fullShare g')
            ∗ owns (c : Thread nD τ) arg7 fullShare (colLater x0 x1 x2 xs1) ∗ owns (c : Thread nD τ) arg8 fullShare (exLater x0 x1 x2 xs1 xs2)) -∗ K ⟨⟩))
      ⊢ wp frame (wpE (defs₀ (F := F)) Variants.none c none) E (cc0__chamfer_body i arg2 harg2 arg3 harg3 arg4 harg4 arg5 harg5 arg6 harg6 arg7 harg7 arg8 harg8) K := by
  simp only [cc0__chamfer_body_eq_skeleton]; unfold cc0__chamfer_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
  sl_exec (disch := first | sl_exact h0 | sl_exact h1 | sl_exact h3 | sl_exact h4)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  have e0 := (load_whole arg2.view _ zero3 inb_S1x1024x3_S1x1024x3_0_0_0).trans hf0
  have e1 := (load_whole arg3.view _ zero3 inb_S1x1024x3_S1x1024x3_0_0_0).trans hf1
  have eo := (load_whole arg5.view _ zero2 inb_S1x1_S1x1_0_0).trans hf3
  have es1 := (load_whole arg7.view _ zero2 inb_S1x4096_S1x4096_0_0).trans hfs1
  have es2 := (load_whole arg8.view _ zero2 inb_S1x4096_S1x4096_0_0).trans hfs2
  have et : View.readAt (Elt F) arg6.view rowsT.toLoadRect (harg6.unread g) = k0_pay4 x2 := by
    rw [View.readAt_eq_ld, hfs0]; exact hg.1
  have en : View.readAt (Elt F) arg6.view rowN.toLoadRect (harg6.unread g) = k0_pay5 x2 := by
    rw [View.readAt_eq_ld, hfs0]; exact hg.2
  isplitl [H3]
  · iexists _; isplitr; swap; · iexact H3
    ipureintro; sl_open_run
    rw [read_whole _ _ zero2]
    simp only [e0, e1, et, en, es1, es2, eo]
  isplitl [HS0]
  · iexists _; isplitr; swap; · iexists _; isplitr; swap; · iexact HS0
                                ipureintro; rfl
    ipureintro
    rw [hfs0]; exact hg
  isplitl [HS1]
  · iexists _; isplitr; swap; · iexact HS1
    ipureintro; sl_open_run
    rw [read_whole _ _ zero2]
    simp only [e0, e1, et, en, es1, es2]
  iexists _; isplitr; swap; · iexact HS2
  ipureintro; sl_open_run
  rw [read_whole _ _ zero2]
  simp only [e0, e1, et, en, es1, es2]

set_option maxHeartbeats 1200000 in
/-- The body at the last point of a batch: as at a middle point, and the column part is added to the result. -/
theorem runD (c : Dev nD) (i : grid0.Coords) (arg2 : Memref sig .tc .vmem S1x1024x3 .f32) (harg2 : arg2.IsWhole) (arg3 : Memref sig .tc .vmem S1x1024x3 .f32) (harg3 : arg3.IsWhole) (arg4 : Memref sig .tc .vmem S1x4096x3 .f32) (harg4 : arg4.IsWhole) (arg5 : Memref sig .tc .vmem S1x1 .f32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole)
    (h0 : ¬ atFirst i) (h1 : ¬ atStart i) (h3 : atLater i) (h4 : atLast i)
    (x0 x1 : Vec F S1x1024x3 .f32) (x2 : Vec F S1x4096x3 .f32) (xo : Vec F S1x1 .f32) (g : Vec F S8x4096 .f32) (xs1 xs2 : Vec F S1x4096 .f32) (hg : Holds g x2) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare g ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (addRows x0 x1 x2 xo) (exLater x0 x1 x2 xs1 xs2))
            ∗ (∃ g', ⌜Holds g' x2⌝ ∗ owns (c : Thread nD τ) arg6 fullShare g')
            ∗ owns (c : Thread nD τ) arg7 fullShare (colLater x0 x1 x2 xs1) ∗ owns (c : Thread nD τ) arg8 fullShare (exLater x0 x1 x2 xs1 xs2)) -∗ K ⟨⟩))
      ⊢ wp frame (wpE (defs₀ (F := F)) Variants.none c none) E (cc0__chamfer_body i arg2 harg2 arg3 harg3 arg4 harg4 arg5 harg5 arg6 harg6 arg7 harg7 arg8 harg8) K := by
  simp only [cc0__chamfer_body_eq_skeleton]; unfold cc0__chamfer_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
  sl_exec (disch := first | sl_exact h0 | sl_exact h1 | sl_exact h3 | sl_exact h4)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  have e0 := (load_whole arg2.view _ zero3 inb_S1x1024x3_S1x1024x3_0_0_0).trans hf0
  have e1 := (load_whole arg3.view _ zero3 inb_S1x1024x3_S1x1024x3_0_0_0).trans hf1
  have eo := (load_whole arg5.view _ zero2 inb_S1x1_S1x1_0_0).trans hf3
  have es1 := (load_whole arg7.view _ zero2 inb_S1x4096_S1x4096_0_0).trans hfs1
  have es2 := (load_whole arg8.view _ zero2 inb_S1x4096_S1x4096_0_0).trans hfs2
  have et : View.readAt (Elt F) arg6.view rowsT.toLoadRect (harg6.unread g) = k0_pay4 x2 := by
    rw [View.readAt_eq_ld, hfs0]; exact hg.1
  have en : View.readAt (Elt F) arg6.view rowN.toLoadRect (harg6.unread g) = k0_pay5 x2 := by
    rw [View.readAt_eq_ld, hfs0]; exact hg.2
  have eR := loadCov_one arg5.view (addRows x0 x1 x2 xo) []
  have eX := loadCov_row arg8.view (exLater x0 x1 x2 xs1 xs2) []
  isplitl [H3]
  · iexists _; isplitr; swap; · iexact H3
    ipureintro; sl_open_run
    rw [read_whole _ _ zero2]
    simp only [e0, e1, et, en, es1, es2, eo, eR, eX]
  isplitl [HS0]
  · iexists _; isplitr; swap; · iexists _; isplitr; swap; · iexact HS0
                                ipureintro; rfl
    ipureintro
    rw [hfs0]; exact hg
  isplitl [HS1]
  · iexists _; isplitr; swap; · iexact HS1
    ipureintro; sl_open_run
    rw [read_whole _ _ zero2]
    simp only [e0, e1, et, en, es1, es2]
  iexists _; isplitr; swap; · iexact HS2
  ipureintro; sl_open_run
  rw [read_whole _ _ zero2]
  simp only [e0, e1, et, en, es1, es2]

end Cert.KernelIdeal.Chamfer

end
-- ==== Proof.KernelIdeal.Blocks.lean ====
module

public import proofs.«01_k».proof.Proof.Gen.KernelIdeal.Frame
public import proofs.«01_k».proof.Proof.KernelIdeal.Body
public import Idealize.ShloMosaic.Lib.Pointwise.Index

/-! What the launch's windows hold at a point: blocks of the argument arrays, and the points' branch conditions. -/

@[expose] public section

set_option maxRecDepth 16384

noncomputable section

namespace Cert.KernelIdeal.Chamfer

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The branch conditions over the points -/

theorem atFirst_iff (t : Fin cfg0.N) : atFirst (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [atFirst, e0, e1]
    word_cmp : ∀ t : Fin grid0.N, atFirst (grid0.coords t) ↔ t.val % 4 = 0) t

theorem atStart_iff (t : Fin cfg0.N) : atStart (grid0.coords t) ↔ t.val = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [atStart, e0, e1]
    word_cmp : ∀ t : Fin grid0.N, atStart (grid0.coords t) ↔ t.val = 0) t

theorem atLater_iff (t : Fin cfg0.N) : atLater (grid0.coords t) ↔ t.val % 4 ≠ 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [atLater, e0, e1]
    word_cmp : ∀ t : Fin grid0.N, atLater (grid0.coords t) ↔ t.val % 4 ≠ 0) t

theorem atLast_iff (t : Fin cfg0.N) : atLast (grid0.coords t) ↔ t.val % 4 = 3 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [atLast, e0, e1]
    word_cmp : ∀ t : Fin grid0.N, atLast (grid0.coords t) ↔ t.val % 4 = 3) t

/-! ## The blocks -/

/-- Point `t`'s block of source points. -/
def srcBlk (c : Dev nD) (t : Fin cfg0.N) : Vec F S1x1024x3 .f32 := iblk m c 0 t
/-- Point `t`'s block of flow vectors. -/
def flowBlk (c : Dev nD) (t : Fin cfg0.N) : Vec F S1x1024x3 .f32 := iblk m c 1 t
/-- Point `t`'s block of target points: the whole batch. -/
def tgtBlk (c : Dev nD) (t : Fin cfg0.N) : Vec F S1x4096x3 .f32 := iblk m c 2 t

theorem batch_lt (t : Fin cfg0.N) : t.val / 4 < 4 := by
  have ht : t.val < 16 := Nat.lt_of_lt_of_eq t.isLt N_0
  omega
theorem row_lt (t : Fin cfg0.N) (n : Fin 1024) : 1024 * (t.val % 4) + n.val < 4096 := by omega

/-- A source block's element: batch `t / 4`, row `1024 * (t % 4) + n`. -/
theorem srcBlk_apply (c : Dev nD) (t : Fin cfg0.N) (n : Fin 1024) (k : Fin 3) :
    srcBlk m c t (ix3 0 n k) = m ((c : Thread nD τ).loc main_arg0) (ix3 ⟨t.val / 4, batch_lt t⟩ ⟨1024 * (t.val % 4) + n.val, row_lt t n⟩ k) := by
  have ht : t.val < 16 := Nat.lt_of_lt_of_eq t.isLt N_0
  have e0 : (grid0.coords t 0).val = t.val / 4 % 4 := Pipeline.Grid.coords_val t 0 (by decide) rfl
  have e1 : (grid0.coords t 1).val = t.val / 1 % 4 := Pipeline.Grid.coords_val t 1 (by decide) rfl
  unfold srcBlk iblk
  rw [View.read_apply]
  show m ((c : Thread nD τ).loc main_arg0) (((cfg0.win 0).rect t).emb (ix3 0 n k)) = _
  congr 1
  funext a
  apply Fin.ext
  fin_cases a
  · show (BitVec.ofNat 32 (grid0.coords t 0).val).toNat * 1 + 0 * 1 = t.val / 4
    rw [e0, BitVec.toNat_ofNat]
    omega
  · show (BitVec.ofNat 32 (grid0.coords t 1).val).toNat * 1024 + 1 * n.val = 1024 * (t.val % 4) + n.val
    rw [e1, BitVec.toNat_ofNat]
    omega
  · show 0 * 3 + 1 * k.val = k.val
    omega

/-- A flow block's element: batch `t / 4`, row `1024 * (t % 4) + n`. -/
theorem flowBlk_apply (c : Dev nD) (t : Fin cfg0.N) (n : Fin 1024) (k : Fin 3) :
    flowBlk m c t (ix3 0 n k) = m ((c : Thread nD τ).loc main_arg2) (ix3 ⟨t.val / 4, batch_lt t⟩ ⟨1024 * (t.val % 4) + n.val, row_lt t n⟩ k) := by
  have ht : t.val < 16 := Nat.lt_of_lt_of_eq t.isLt N_0
  have e0 : (grid0.coords t 0).val = t.val / 4 % 4 := Pipeline.Grid.coords_val t 0 (by decide) rfl
  have e1 : (grid0.coords t 1).val = t.val / 1 % 4 := Pipeline.Grid.coords_val t 1 (by decide) rfl
  unfold flowBlk iblk
  rw [View.read_apply]
  show m ((c : Thread nD τ).loc main_arg2) (((cfg0.win 1).rect t).emb (ix3 0 n k)) = _
  congr 1
  funext a
  apply Fin.ext
  fin_cases a
  · show (BitVec.ofNat 32 (grid0.coords t 0).val).toNat * 1 + 0 * 1 = t.val / 4
    rw [e0, BitVec.toNat_ofNat]
    omega
  · show (BitVec.ofNat 32 (grid0.coords t 1).val).toNat * 1024 + 1 * n.val = 1024 * (t.val % 4) + n.val
    rw [e1, BitVec.toNat_ofNat]
    omega
  · show 0 * 3 + 1 * k.val = k.val
    omega

/-- A target block's element: batch `t / 4`, the same row. -/
theorem tgtBlk_apply (c : Dev nD) (t : Fin cfg0.N) (n : Fin 4096) (k : Fin 3) :
    tgtBlk m c t (ix3 0 n k) = m ((c : Thread nD τ).loc main_arg1) (ix3 ⟨t.val / 4, batch_lt t⟩ n k) := by
  have ht : t.val < 16 := Nat.lt_of_lt_of_eq t.isLt N_0
  have e0 : (grid0.coords t 0).val = t.val / 4 % 4 := Pipeline.Grid.coords_val t 0 (by decide) rfl
  have e1 : (grid0.coords t 1).val = t.val / 1 % 4 := Pipeline.Grid.coords_val t 1 (by decide) rfl
  unfold tgtBlk iblk
  rw [View.read_apply]
  show m ((c : Thread nD τ).loc main_arg1) (((cfg0.win 2).rect t).emb (ix3 0 n k)) = _
  congr 1
  funext a
  apply Fin.ext
  fin_cases a
  · show (BitVec.ofNat 32 (grid0.coords t 0).val).toNat * 1 + 0 * 1 = t.val / 4
    rw [e0, BitVec.toNat_ofNat]
    omega
  · show 0 * 4096 + 1 * n.val = n.val
    omega
  · show 0 * 3 + 1 * k.val = k.val
    omega

/-- Within a batch the target block does not change. -/
theorem tgtBlk_same (c : Dev nD) (n : ℕ) (h : n < cfg0.N) (h' : n + 1 < cfg0.N) (hn : (n + 1) % 4 ≠ 0) :
    tgtBlk m c ⟨n, h⟩ = tgtBlk m c ⟨n + 1, h'⟩ := by
  funext y
  obtain ⟨a, b, k, rfl⟩ : ∃ (a : Fin 1) (b : Fin 4096) (k : Fin 3), y = ix3 a b k := ⟨y 0, y 1, y 2, eq_ix3 y⟩
  obtain rfl : a = 0 := Subsingleton.elim _ _
  rw [tgtBlk_apply, tgtBlk_apply]
  congr 2
  apply Fin.ext
  show n / 4 = (n + 1) / 4
  omega

end Cert.KernelIdeal.Chamfer

end
-- ==== Proof.KernelIdeal.Run.lean ====
module

public import proofs.«01_k».proof.Proof.KernelIdeal.Blocks
public import Idealize.ShloMosaic.Lib.Pipeline.FrameSuffix
public import Idealize.ShloMosaic.Lib.Claim

/-! The launch of the chamfer kernel: what the result's staging buffer and the two carried scratch rows hold after
every point, the body at every point, and the run of the whole program. -/

@[expose] public section

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried from point to point -/

/-- The result so far, the column minima, the corrected column minima. -/
abbrev State (F : FTy → Type) [FloatOps F] : Type := Vec F S1x1 .f32 × Vec F S1x4096 .f32 × Vec F S1x4096 .f32

/-- A batch's first point, from the result so far. -/
def stepFirst (x0 x1 : Vec F S1x1024x3 .f32) (x2 : Vec F S1x4096x3 .f32) (o : Vec F S1x1 .f32) : State F :=
  (addRows x0 x1 x2 o, colFirst x0 x1 x2, exFirst x0 x1 x2)
/-- A batch's middle point. -/
def stepMid (x0 x1 : Vec F S1x1024x3 .f32) (x2 : Vec F S1x4096x3 .f32) (s : State F) : State F :=
  (addRows x0 x1 x2 s.1, colLater x0 x1 x2 s.2.1, exLater x0 x1 x2 s.2.1 s.2.2)
/-- A batch's last point: the column part goes into the result. -/
def stepLast (x0 x1 : Vec F S1x1024x3 .f32) (x2 : Vec F S1x4096x3 .f32) (s : State F) : State F :=
  (k0_pay2 (addRows x0 x1 x2 s.1) (exLater x0 x1 x2 s.2.1 s.2.2), colLater x0 x1 x2 s.2.1, exLater x0 x1 x2 s.2.1 s.2.2)

/-- What is carried after point `n`. -/
def stAt (c : Dev nD) : (n : ℕ) → n < cfg0.N → State F
  | 0, h => stepFirst (srcBlk m c ⟨0, h⟩) (flowBlk m c ⟨0, h⟩) (tgtBlk m c ⟨0, h⟩) k0_pay14
  | n + 1, h =>
    if (n + 1) % 4 = 0 then
      stepFirst (srcBlk m c ⟨n + 1, h⟩) (flowBlk m c ⟨n + 1, h⟩) (tgtBlk m c ⟨n + 1, h⟩) (stAt c n (Nat.lt_of_succ_lt h)).1
    else if (n + 1) % 4 = 3 then
      stepLast (srcBlk m c ⟨n + 1, h⟩) (flowBlk m c ⟨n + 1, h⟩) (tgtBlk m c ⟨n + 1, h⟩) (stAt c n (Nat.lt_of_succ_lt h))
    else
      stepMid (srcBlk m c ⟨n + 1, h⟩) (flowBlk m c ⟨n + 1, h⟩) (tgtBlk m c ⟨n + 1, h⟩) (stAt c n (Nat.lt_of_succ_lt h))

theorem stAt_zero (c : Dev nD) (h : 0 < cfg0.N) :
    stAt m c 0 h = stepFirst (srcBlk m c ⟨0, h⟩) (flowBlk m c ⟨0, h⟩) (tgtBlk m c ⟨0, h⟩) k0_pay14 := by
  unfold stAt; rfl
theorem stAt_first (c : Dev nD) (n : ℕ) (h : n + 1 < cfg0.N) (hn : (n + 1) % 4 = 0) :
    stAt m c (n + 1) h = stepFirst (srcBlk m c ⟨n + 1, h⟩) (flowBlk m c ⟨n + 1, h⟩) (tgtBlk m c ⟨n + 1, h⟩) (stAt m c n (Nat.lt_of_succ_lt h)).1 := by
  rw [stAt, if_pos hn]
theorem stAt_mid (c : Dev nD) (n : ℕ) (h : n + 1 < cfg0.N) (hn : (n + 1) % 4 ≠ 0) (hn' : (n + 1) % 4 ≠ 3) :
    stAt m c (n + 1) h = stepMid (srcBlk m c ⟨n + 1, h⟩) (flowBlk m c ⟨n + 1, h⟩) (tgtBlk m c ⟨n + 1, h⟩) (stAt m c n (Nat.lt_of_succ_lt h)) := by
  rw [stAt, if_neg hn, if_neg hn']
theorem stAt_last (c : Dev nD) (n : ℕ) (h : n + 1 < cfg0.N) (hn : (n + 1) % 4 = 3) :
    stAt m c (n + 1) h = stepLast (srcBlk m c ⟨n + 1, h⟩) (flowBlk m c ⟨n + 1, h⟩) (tgtBlk m c ⟨n + 1, h⟩) (stAt m c n (Nat.lt_of_succ_lt h)) := by
  rw [stAt, if_neg (by omega), if_pos hn]

/-! ## The proof data -/

/-- The scratch operands. -/
abbrev scT : Memref sig .tc .vmem S8x4096 .f32 := Memref.whole cc0_scratch0
abbrev scC : Memref sig .tc .vmem S1x4096 .f32 := Memref.whole cc0_scratch1
abbrev scE : Memref sig .tc .vmem S1x4096 .f32 := Memref.whole cc0_scratch2

/-- What the launch hands the region besides the windows: the scratch at some contents and the generator register. -/
theorem PhiA_eq (c : Dev nD) : (Pipeline.ΦA spec0 c : sProp 𝕄) =
    iprop(iprop((∃ d, owns (c : Thread nD τ) scT fullShare d) ∗ (∃ d, owns (c : Thread nD τ) scC fullShare d) ∗ (∃ d, owns (c : Thread nD τ) scE fullShare d)) ∗ (∃ r, prngReg c r)) := by
  unfold Pipeline.ΦA; rw [scopedRest0_eq]; simp only [scT, scC, scE, owns_whole]; try rfl

/-- Before point `n`: nothing is known of the scratch before the first point; later the first scratch holds the
batch's transposed target points and their squared norms, the other two what is carried. -/
def PhiS (c : Dev nD) : (n : ℕ) → n ≤ cfg0.N → sProp 𝕄
  | 0, _ => Pipeline.ΦA spec0 c
  | n + 1, hn => iprop(iprop((∃ g, ⌜Holds g (tgtBlk m c ⟨n, hn⟩)⌝ ∗ owns (c : Thread nD τ) scT fullShare g)
      ∗ owns (c : Thread nD τ) scC fullShare (stAt m c n hn).2.1 ∗ owns (c : Thread nD τ) scE fullShare (stAt m c n hn).2.2) ∗ (∃ r, prngReg c r))

theorem PhiS_succ (c : Dev nD) (n : ℕ) (hn : n < cfg0.N) :
    PhiS m c (n + 1) hn = iprop(iprop((∃ g, ⌜Holds g (tgtBlk m c ⟨n, hn⟩)⌝ ∗ owns (c : Thread nD τ) scT fullShare g)
      ∗ owns (c : Thread nD τ) scC fullShare (stAt m c n hn).2.1 ∗ owns (c : Thread nD τ) scE fullShare (stAt m c n hn).2.2) ∗ (∃ r, prngReg c r)) := rfl

/-- The launch's proof data: the inputs' buffers hold their blocks, the result's buffer what is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_src (c : Dev nD) (t : Fin cfg0.N) : (dats m 0 c).after 0 t = srcBlk m c t := by dsimp only [dats]; rfl
theorem after_flow (c : Dev nD) (t : Fin cfg0.N) : (dats m 0 c).after 1 t = flowBlk m c t := by dsimp only [dats]; rfl
theorem after_tgt (c : Dev nD) (t : Fin cfg0.N) : (dats m 0 c).after 2 t = tgtBlk m c t := by dsimp only [dats]; rfl
theorem after_out (c : Dev nD) (t : Fin cfg0.N) : (dats m 0 c).after 3 t = (stAt m c t.val t.isLt).1 := by dsimp only [dats]

theorem before_src (c : Dev nD) (t : Fin cfg0.N) (d) : (dats m 0 c).before 0 t d = srcBlk m c t :=
  before0_0_of m (dats m 0 c) (A_eq m c 0) (fun t => after_src m c t) t d
theorem before_flow (c : Dev nD) (t : Fin cfg0.N) (d) : (dats m 0 c).before 1 t d = flowBlk m c t :=
  before0_1_of m (dats m 0 c) (A_eq m c 1) (fun t => after_flow m c t) t d
theorem before_tgt (c : Dev nD) (t : Fin cfg0.N) (d) : (dats m 0 c).before 2 t d = tgtBlk m c t :=
  before0_2_of m (dats m 0 c) (A_eq m c 2) (fun t => after_tgt m c t) t d

/-- The result's buffer is kept from point to point: it is written back only after the last. -/
theorem before_out (c : Dev nD) (n : ℕ) (h : n + 1 < cfg0.N) (d) :
    (dats m 0 c).before 3 ⟨n + 1, h⟩ d = (stAt m c n (Nat.lt_of_succ_lt h)).1 := by
  have hN : n + 1 < 16 := lt_of_lt_of_eq h (show cfg0.N = 16 from N_0)
  rw [Dat.before_out_kept _ 3 rfl ⟨n + 1, h⟩ (by simp) (Bool.eq_false_iff.mpr fun h => by have := (flush0_3 _).mp h; dsimp only at this; omega)
    (fun _ => rfl) (fun _ _ => rfl)]
  dsimp only [dats]
  rfl

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

set_option maxHeartbeats 1600000 in
/-- The body at the first point of all. -/
theorem sound_start (c : Dev nD) (h : 0 < cfg0.N) :
    bodyPre m c ⟨0, h⟩ ⊢ wp frame (wpE (defs₀ (F := F)) Variants.none c none) Set.univ (bodyAt0 ⟨0, h⟩) (fun _ => bodyPost m c ⟨0, h⟩) := by
  unfold bodyPre bodyPost bodyAt0
  simp only [before_src, before_flow, before_tgt]
  rw [show (dats m 0 c).owesAt () (Fin.succ ⟨0, h⟩) = (dats m 0 c).owesAt () (Fin.castSucc ⟨0, h⟩) from rfl,
    after_src, after_flow, after_tgt, after_out]
  rw [show (dats m 0 c).Φ (Fin.succ ⟨0, h⟩) = PhiS m c (0 + 1) h from rfl, PhiS_succ, PhiS_castSucc m c ⟨0, h⟩,
    show PhiS m c (Fin.val (⟨0, h⟩ : Fin cfg0.N)) (Nat.le_of_lt h) = Pipeline.ΦA spec0 c from rfl, PhiA_eq,
    show stAt m c (Fin.val (⟨0, h⟩ : Fin cfg0.N)) h = stAt m c 0 h from rfl, stAt_zero]
  unfold stepFirst
  dsimp only
  iintro ⟨⟨⟨⟨%g, HS0⟩, ⟨%s1, HS1⟩, ⟨%s2, HS2⟩⟩, Hg⟩, Ho, ⟨%d0, H0⟩, ⟨%d1, H1⟩, ⟨%d2, H2⟩, ⟨%d3, H3⟩⟩
  iapply (runA c (grid0.coords ⟨0, h⟩) _ _ _ _ _ _ _ _ _ _ _ _ _ _ ((atFirst_iff _).mpr rfl) ((atStart_iff _).mpr rfl)
    (fun h' => (atLater_iff _).mp h' rfl) (fun h' => by have := (atLast_iff _).mp h'; simp at this)
    (srcBlk m c ⟨0, h⟩) (flowBlk m c ⟨0, h⟩) (tgtBlk m c ⟨0, h⟩) _ g s1 s2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

set_option maxHeartbeats 1600000 in
/-- The body at the first point of a later batch. -/
theorem sound_first (c : Dev nD) (n : ℕ) (h : n + 1 < cfg0.N) (hn : (n + 1) % 4 = 0) :
    bodyPre m c ⟨n + 1, h⟩ ⊢ wp frame (wpE (defs₀ (F := F)) Variants.none c none) Set.univ (bodyAt0 ⟨n + 1, h⟩) (fun _ => bodyPost m c ⟨n + 1, h⟩) := by
  unfold bodyPre bodyPost bodyAt0
  simp only [before_src, before_flow, before_tgt, before_out]
  rw [show (dats m 0 c).owesAt () (Fin.succ ⟨n + 1, h⟩) = (dats m 0 c).owesAt () (Fin.castSucc ⟨n + 1, h⟩) from rfl,
    after_src, after_flow, after_tgt, after_out]
  rw [show (dats m 0 c).Φ (Fin.succ ⟨n + 1, h⟩) = PhiS m c (n + 1 + 1) h from rfl, PhiS_succ, PhiS_castSucc m c ⟨n + 1, h⟩,
    show PhiS m c (Fin.val (⟨n + 1, h⟩ : Fin cfg0.N)) (Nat.le_of_lt h) = PhiS m c (n + 1) (Nat.le_of_lt h) from rfl, PhiS_succ,
    show stAt m c (Fin.val (⟨n + 1, h⟩ : Fin cfg0.N)) h = stAt m c (n + 1) h from rfl, stAt_first m c n h hn]
  unfold stepFirst
  dsimp only
  iintro ⟨⟨⟨⟨%g, %hg, HS0⟩, HS1, HS2⟩, Hg⟩, Ho, ⟨%d0, H0⟩, ⟨%d1, H1⟩, ⟨%d2, H2⟩, ⟨%d3, H3⟩⟩
  iapply (runB c (grid0.coords ⟨n + 1, h⟩) _ _ _ _ _ _ _ _ _ _ _ _ _ _ ((atFirst_iff _).mpr hn) (fun h' => Nat.succ_ne_zero n ((atStart_iff _).mp h'))
    (fun h' => (atLater_iff _).mp h' hn) (fun h' => by have := (atLast_iff _).mp h'; simp only at this; omega)
    (srcBlk m c ⟨n + 1, h⟩) (flowBlk m c ⟨n + 1, h⟩) (tgtBlk m c ⟨n + 1, h⟩) (stAt m c n (Nat.lt_of_succ_lt h)).1 g
    (stAt m c n (Nat.lt_of_succ_lt h)).2.1 (stAt m c n (Nat.lt_of_succ_lt h)).2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

set_option maxHeartbeats 1600000 in
/-- The body at a middle point of a batch. -/
theorem sound_mid (c : Dev nD) (n : ℕ) (h : n + 1 < cfg0.N) (hn : (n + 1) % 4 ≠ 0) (hn' : (n + 1) % 4 ≠ 3) :
    bodyPre m c ⟨n + 1, h⟩ ⊢ wp frame (wpE (defs₀ (F := F)) Variants.none c none) Set.univ (bodyAt0 ⟨n + 1, h⟩) (fun _ => bodyPost m c ⟨n + 1, h⟩) := by
  unfold bodyPre bodyPost bodyAt0
  simp only [before_src, before_flow, before_tgt, before_out]
  rw [show (dats m 0 c).owesAt () (Fin.succ ⟨n + 1, h⟩) = (dats m 0 c).owesAt () (Fin.castSucc ⟨n + 1, h⟩) from rfl,
    after_src, after_flow, after_tgt, after_out]
  rw [show (dats m 0 c).Φ (Fin.succ ⟨n + 1, h⟩) = PhiS m c (n + 1 + 1) h from rfl, PhiS_succ, PhiS_castSucc m c ⟨n + 1, h⟩,
    show PhiS m c (Fin.val (⟨n + 1, h⟩ : Fin cfg0.N)) (Nat.le_of_lt h) = PhiS m c (n + 1) (Nat.le_of_lt h) from rfl, PhiS_succ,
    show stAt m c (Fin.val (⟨n + 1, h⟩ : Fin cfg0.N)) h = stAt m c (n + 1) h from rfl, stAt_mid m c n h hn hn']
  unfold stepMid
  dsimp only
  iintro ⟨⟨⟨⟨%g, %hg, HS0⟩, HS1, HS2⟩, Hg⟩, Ho, ⟨%d0, H0⟩, ⟨%d1, H1⟩, ⟨%d2, H2⟩, ⟨%d3, H3⟩⟩
  rw [tgtBlk_same m c n (Nat.lt_of_succ_lt h) h hn] at hg
  iapply (runC c (grid0.coords ⟨n + 1, h⟩) _ _ _ _ _ _ _ _ _ _ _ _ _ _ (fun h' => hn ((atFirst_iff _).mp h')) (fun h' => Nat.succ_ne_zero n ((atStart_iff _).mp h'))
    ((atLater_iff _).mpr hn) (fun h' => hn' ((atLast_iff _).mp h'))
    (srcBlk m c ⟨n + 1, h⟩) (flowBlk m c ⟨n + 1, h⟩) (tgtBlk m c ⟨n + 1, h⟩) (stAt m c n (Nat.lt_of_succ_lt h)).1 g
    (stAt m c n (Nat.lt_of_succ_lt h)).2.1 (stAt m c n (Nat.lt_of_succ_lt h)).2.2 hg Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

set_option maxHeartbeats 1600000 in
/-- The body at the last point of a batch. -/
theorem sound_last (c : Dev nD) (n : ℕ) (h : n + 1 < cfg0.N) (hn' : (n + 1) % 4 = 3) :
    bodyPre m c ⟨n + 1, h⟩ ⊢ wp frame (wpE (defs₀ (F := F)) Variants.none c none) Set.univ (bodyAt0 ⟨n + 1, h⟩) (fun _ => bodyPost m c ⟨n + 1, h⟩) := by
  unfold bodyPre bodyPost bodyAt0
  simp only [before_src, before_flow, before_tgt, before_out]
  rw [show (dats m 0 c).owesAt () (Fin.succ ⟨n + 1, h⟩) = (dats m 0 c).owesAt () (Fin.castSucc ⟨n + 1, h⟩) from rfl,
    after_src, after_flow, after_tgt, after_out]
  rw [show (dats m 0 c).Φ (Fin.succ ⟨n + 1, h⟩) = PhiS m c (n + 1 + 1) h from rfl, PhiS_succ, PhiS_castSucc m c ⟨n + 1, h⟩,
    show PhiS m c (Fin.val (⟨n + 1, h⟩ : Fin cfg0.N)) (Nat.le_of_lt h) = PhiS m c (n + 1) (Nat.le_of_lt h) from rfl, PhiS_succ,
    show stAt m c (Fin.val (⟨n + 1, h⟩ : Fin cfg0.N)) h = stAt m c (n + 1) h from rfl, stAt_last m c n h hn']
  unfold stepLast
  dsimp only
  iintro ⟨⟨⟨⟨%g, %hg, HS0⟩, HS1, HS2⟩, Hg⟩, Ho, ⟨%d0, H0⟩, ⟨%d1, H1⟩, ⟨%d2, H2⟩, ⟨%d3, H3⟩⟩
  have hn : (n + 1) % 4 ≠ 0 := by omega
  rw [tgtBlk_same m c n (Nat.lt_of_succ_lt h) h hn] at hg
  iapply (runD c (grid0.coords ⟨n + 1, h⟩) _ _ _ _ _ _ _ _ _ _ _ _ _ _ (fun h' => hn ((atFirst_iff _).mp h')) (fun h' => Nat.succ_ne_zero n ((atStart_iff _).mp h'))
    ((atLater_iff _).mpr hn) ((atLast_iff _).mpr hn')
    (srcBlk m c ⟨n + 1, h⟩) (flowBlk m c ⟨n + 1, h⟩) (tgtBlk m c ⟨n + 1, h⟩) (stAt m c n (Nat.lt_of_succ_lt h)).1 g
    (stAt m c n (Nat.lt_of_succ_lt h)).2.1 (stAt m c n (Nat.lt_of_succ_lt h)).2.2 hg Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

/-- The body at any point. -/
theorem sound_body (c : Dev nD) (t : Fin cfg0.N) :
    bodyPre m c t ⊢ wp frame (wpE (defs₀ (F := F)) Variants.none c none) Set.univ (bodyAt0 t) (fun _ => bodyPost m c t) := by
  obtain ⟨n, h⟩ := t
  cases n with
  | zero => exact sound_start m c h
  | succ n =>
    by_cases hn : (n + 1) % 4 = 0
    · exact sound_first m c n h hn
    by_cases hn' : (n + 1) % 4 = 3
    · exact sound_last m c n h hn'
    exact sound_mid m c n h hn hn'

/-- The body table's row at point `t`'s slots is the body as the point calls it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

/-- After the last point the scratch's contents are forgotten. -/
theorem hout (c : Dev nD) : (dats m 0 c).Φ (Fin.last cfg0.N) ⊢ Pipeline.ΦA spec0 c := by
  have hN : cfg0.N = 15 + 1 := N_0
  have e : ∀ (k : ℕ) (hk : k ≤ cfg0.N) (hk' : 15 + 1 ≤ cfg0.N), k = 15 + 1 → PhiS m c k hk = PhiS m c (15 + 1) hk' := by
    intro k hk hk' e; subst e; rfl
  rw [show (dats m 0 c).Φ (Fin.last cfg0.N) = PhiS m c cfg0.N le_rfl from rfl, e _ _ (le_of_eq hN.symm) hN, PhiS_succ, PhiA_eq]
  iintro ⟨⟨⟨%g, %hg, HS0⟩, HS1, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
set_option maxHeartbeats 800000 in
/-- Every fair execution of the program ends with the windows' arrays at what the proof data computes, every other array
as the host lines after the launch leave it, and every semaphore at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end as they began and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Chamfer

end
-- ==== Proof.Frames.lean ====
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Lib.Claim

/-! The frame claims: each program ends with its argument arrays unchanged and every semaphore at zero. -/

@[expose] public section

noncomputable section

namespace Cert.Chamfer

open Idealize.ShloMosaic Idealize.SL.Sem

/-- The kernel over machine words. -/
theorem frame_kernel : Cert.quiescent_Kernel := fun m ρ _ => Cert.Kernel.Chamfer.frame m ρ
/-- The kernel over the extended reals. -/
theorem frame_kernelIdeal : Cert.quiescent_KernelIdeal := fun m ρ _ => Cert.KernelIdeal.Chamfer.frame m ρ
/-- The reference over the extended reals; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Chamfer

end
-- ==== Proof.Math.lean ====
module

public import Mathlib.Data.EReal.Operations
public import Mathlib.Analysis.SpecialFunctions.Pow.Real
public import Mathlib.Data.Finset.Fold

/-! Real-number facts: the minimum of finitely many reals, and the squared distance of two points. -/

@[expose] public section

noncomputable section

namespace Cert.Chamfer

/-- The least of finitely many reals. -/
def minOf {K : ℕ} [NeZero K] (f : Fin K → ℝ) : ℝ := Finset.univ.inf' ⟨0, Finset.mem_univ _⟩ f

theorem minOf_le {K : ℕ} [NeZero K] (f : Fin K → ℝ) (i : Fin K) : minOf f ≤ f i := Finset.inf'_le f (Finset.mem_univ i)

theorem exists_minOf {K : ℕ} [NeZero K] (f : Fin K → ℝ) : ∃ i, f i = minOf f := by
  obtain ⟨i, -, h⟩ := Finset.exists_mem_eq_inf' (⟨0, Finset.mem_univ _⟩ : (Finset.univ : Finset (Fin K)).Nonempty) f
  exact ⟨i, h.symm⟩

/-- A value that is attained and is below all the others is the minimum. -/
theorem minOf_eq {K : ℕ} [NeZero K] (f : Fin K → ℝ) (v : ℝ) (h : ∃ i, f i = v) (hv : ∀ i, v ≤ f i) : minOf f = v := by
  obtain ⟨i, rfl⟩ := h
  exact le_antisymm (minOf_le f i) (Finset.le_inf' _ _ fun j _ => hv j)

theorem minOf_nonneg {K : ℕ} [NeZero K] (f : Fin K → ℝ) (h : ∀ i, 0 ≤ f i) : 0 ≤ minOf f :=
  Finset.le_inf' _ _ fun j _ => h j

/-- The same over the extended reals, for the minimum taken as a fold from `+∞`. -/
theorem fold_min_eq {K : ℕ} (g : Fin K → EReal) (v : EReal) (h : ∃ i, g i = v) (hv : ∀ i, v ≤ g i) :
    Finset.univ.fold min (⊤ : EReal) g = v := by
  obtain ⟨i, rfl⟩ := h
  refine le_antisymm ((Finset.fold_min_le _).mpr (Or.inr ⟨i, Finset.mem_univ i, le_rfl⟩)) ((Finset.le_fold_min _).mpr ⟨le_top, fun j _ => hv j⟩)

/-- A fold of minima over reals is the least of them. -/
theorem fold_min_coe {K : ℕ} [NeZero K] (f : Fin K → ℝ) :
    Finset.univ.fold min (⊤ : EReal) (fun i => (f i : EReal)) = (minOf f : EReal) := by
  obtain ⟨i, hi⟩ := exists_minOf f
  exact fold_min_eq _ _ ⟨i, by rw [hi]⟩ fun j => EReal.coe_le_coe_iff.mpr (minOf_le f j)

/-- A sum of reals, taken over the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The squared Euclidean distance of two points. -/
def distSq (x y : Fin 3 → ℝ) : ℝ := (x 0 - y 0) ^ 2 + (x 1 - y 1) ^ 2 + (x 2 - y 2) ^ 2

theorem distSq_nonneg (x y : Fin 3 → ℝ) : 0 ≤ distSq x y := by unfold distSq; positivity

theorem distSq_comm (x y : Fin 3 → ℝ) : distSq x y = distSq y x := by unfold distSq; ring

/-- A sum over 4096 rows is the sum over four blocks of 1024 rows. -/
theorem sum_blocks (f : Fin 4096 → ℝ) :
    ∑ n, f n = ∑ i : Fin 4, ∑ n : Fin 1024, f ⟨1024 * i.val + n.val, by omega⟩ := by
  rw [← Fintype.sum_prod_type' (f := fun (i : Fin 4) (n : Fin 1024) => f ⟨1024 * i.val + n.val, by omega⟩)]
  refine (Fintype.sum_equiv (finProdFinEquiv (m := 4) (n := 1024)) _ _ fun p => ?_).symm
  congr 1
  apply Fin.ext
  show 1024 * p.1.val + p.2.val = p.2.val + 1024 * p.1.val
  omega

end Cert.Chamfer

end
-- ==== Proof.KernelIdeal.BlockDist.lean ====
module

public import proofs.«01_k».proof.Proof.KernelIdeal.Body
public import proofs.«01_k».proof.Proof.Math
public import Idealize.ShloMosaic.Lib.Pointwise

/-! The squared distances and the corrections of one block over the extended reals, when its coordinates are real. -/

@[expose] public section

set_option maxRecDepth 16384

noncomputable section

namespace Cert.KernelIdeal.Chamfer

open Idealize.ShloMosaic
open Cert.KernelIdeal Cert.KernelIdeal.Gen Cert.Chamfer

/-- The literal `-2`. -/
theorem lit_neg_two : Ideal.ofBits .f32 3221225472#32 = ((-2 : ℝ) : EReal) := by
  simp [Ideal.ofBits, Ideal.ieee, -EReal.coe_mul]; norm_num
/-- The literal `+∞`. -/
theorem lit_inf : Ideal.ofBits .f32 2139095040#32 = ⊤ := by
  simp [Ideal.ofBits, Ideal.ieee, -EReal.coe_mul]
/-- The literal `2⁻¹⁴`. -/
theorem lit_scale : Ideal.ofBits .f32 0x38800000#32 = (((1:ℝ) / 16384 : ℝ) : EReal) := by
  simp [Ideal.ofBits, Ideal.ieee, -EReal.coe_mul]; norm_num

variable (x0 x1 : Vec Ideal S1x1024x3 .f32) (x2 : Vec Ideal S1x4096x3 .f32)
  (s f : Fin 1024 → Fin 3 → ℝ) (r : Fin 4096 → Fin 3 → ℝ)

/-- A squared distance of the block, as the kernel forms it, is that of the two points. -/
theorem dist2_apply (h0 : ∀ n k, x0 (ix3 0 n k) = (s n k : EReal)) (h1 : ∀ n k, x1 (ix3 0 n k) = (f n k : EReal))
    (h2 : ∀ n k, x2 (ix3 0 n k) = (r n k : EReal)) (n : Fin 1024) (l : Fin 4096) :
    dist2 x0 x1 x2 (ix2 n l) = ((distSq (fun k => s n k + f n k) (r l) : ℝ) : EReal) := by
  unfold dist2
  unfold_payloads
  pointwise
  simp only [h0, h1, h2, lit_neg_two, Fin.sum_univ_three]
  simp only [← EReal.coe_add, ← EReal.coe_mul]
  congr 1
  unfold distSq
  ring

/-- The block's corrections vanish: over the reals both ways to form the inner products agree. -/
theorem corr_apply (h0 : ∀ n k, x0 (ix3 0 n k) = (s n k : EReal)) (h1 : ∀ n k, x1 (ix3 0 n k) = (f n k : EReal))
    (h2 : ∀ n k, x2 (ix3 0 n k) = (r n k : EReal)) (n : Fin 1024) (l : Fin 4096) :
    corr x0 x1 x2 (ix2 n l) = 0 := by
  unfold corr
  unfold_payloads
  pointwise
  simp only [h0, h1, h2, lit_neg_two, Fin.sum_univ_three]
  norm_cast
  ring

end Cert.KernelIdeal.Chamfer

end
-- ==== Proof.KernelIdeal.BlockMin.lean ====
module

public import proofs.«01_k».proof.Proof.KernelIdeal.Body
public import proofs.«01_k».proof.Proof.Math
public import Idealize.ShloMosaic.Lib.Pointwise

/-! The minima of one block of distances by rows and by columns, read at an index over the extended reals. -/

@[expose] public section

set_option maxRecDepth 16384

noncomputable section

namespace Cert.KernelIdeal.Chamfer

open Idealize.ShloMosaic
open Cert.KernelIdeal Cert.KernelIdeal.Gen Cert.Chamfer

/-- The least entry of every column. -/
theorem pay12_apply (d : FVec Ideal S1024x4096 .f32) (l : Fin 4096) :
    k0_pay12 d (ix2 0 l) = Finset.univ.fold min (Ideal.ofBits .f32 2139095040#32) fun n : Fin 1024 => d (ix2 n l) := by
  unfold_payloads
  pointwise

/-- A selection on equality. -/
theorem select_oeq (x y a b : EReal) : Scalar.select (FloatOps.cmpf (F := Ideal) (φ := .f32) .oeq x y) a b = if x = y then a else b := by
  show (if BitVec.ofBool (decide (x = y)) = 1 then a else b) = _
  by_cases h : x = y <;> simp [h]

theorem rowSpread_apply (w : FVec Ideal S1x4096 .f32) (n : Fin 1024) (l : Fin 4096) :
    broadcastTo S1024x4096 w broadcasts_S1x4096_S1024x4096 (ix2 n l) = w (ix2 0 l) := by
  pointwise

/-- `e` where `d` equals its column's entry of `w`, and `+∞` elsewhere. -/
def colMask (d e : FVec Ideal S1024x4096 .f32) (w : FVec Ideal S1x4096 .f32) : FVec Ideal S1024x4096 .f32 :=
  select (cmpf .oeq d (broadcastTo S1024x4096 w broadcasts_S1x4096_S1024x4096)) e (broadcast S1024x4096 (Scalar.ofBits .f32 0x7F800000#32))

theorem colMask_apply (d e : FVec Ideal S1024x4096 .f32) (w : FVec Ideal S1x4096 .f32) (n : Fin 1024) (l : Fin 4096) :
    colMask d e w (ix2 n l) = if d (ix2 n l) = w (ix2 0 l) then e (ix2 n l) else Ideal.ofBits .f32 2139095040#32 := by
  rw [← rowSpread_apply w n l]
  exact select_oeq _ _ _ _

/-- The corrected column minima as the column minima and the minima of the masked corrections. -/
theorem pay13_eq (d e : FVec Ideal S1024x4096 .f32) :
    k0_pay13 d e = maximumf (addf (k0_pay12 d) (k0_pay12 (colMask d e (k0_pay12 d)))) (broadcast S1x4096 (Scalar.ofBits .f32 0x00000000#32)) := by
  unfold k0_pay13 colMask k0_pay12
  rfl

theorem max_zero_at {s : Shape} (u v : FVec Ideal s .f32) (i : s.Idx) :
    maximumf (addf u v) (broadcast s (Scalar.ofBits .f32 0x00000000#32)) i = (max (u i + v i) 0 : EReal) := by
  show max (u i + v i) (Ideal.ofBits .f32 0x00000000#32) = _
  rw [Ideal.ofBits_zero_f32]

theorem pay13_apply (d e : FVec Ideal S1024x4096 .f32) (l : Fin 4096) :
    k0_pay13 d e (ix2 0 l) = max (k0_pay12 d (ix2 0 l) + k0_pay12 (colMask d e (k0_pay12 d)) (ix2 0 l)) 0 := by
  rw [pay13_eq]
  exact max_zero_at _ _ _

/-- The least entry of every row, as a column. -/
def rowLeast (d : FVec Ideal S1024x4096 .f32) : FVec Ideal S1024x1 .f32 :=
  shapeCast S1024x1 (multiReduction .minimumf [1] S1024 d 0x7F800000#32 reduces_S1024x4096_S1024 (.inl rfl) rfl) shapeCasts_S1024_S1024x1

theorem rowLeast_apply (d : FVec Ideal S1024x4096 .f32) (n : Fin 1024) :
    rowLeast d (ix2 n 0) = Finset.univ.fold min (Ideal.ofBits .f32 2139095040#32) fun l : Fin 4096 => d (ix2 n l) := by
  unfold rowLeast
  pointwise

theorem colSpread_apply (w : FVec Ideal S1024x1 .f32) (n : Fin 1024) (l : Fin 4096) :
    broadcastTo S1024x4096 w broadcasts_S1024x1_S1024x4096 (ix2 n l) = w (ix2 n 0) := by
  pointwise

/-- `e` where `d` equals its row's entry of `w`, and `+∞` elsewhere. -/
def rowMask (d e : FVec Ideal S1024x4096 .f32) (w : FVec Ideal S1024x1 .f32) : FVec Ideal S1024x4096 .f32 :=
  select (cmpf .oeq d (broadcastTo S1024x4096 w broadcasts_S1024x1_S1024x4096)) e (broadcast S1024x4096 (Scalar.ofBits .f32 0x7F800000#32))

theorem rowMask_apply (d e : FVec Ideal S1024x4096 .f32) (w : FVec Ideal S1024x1 .f32) (n : Fin 1024) (l : Fin 4096) :
    rowMask d e w (ix2 n l) = if d (ix2 n l) = w (ix2 n 0) then e (ix2 n l) else Ideal.ofBits .f32 2139095040#32 := by
  rw [← colSpread_apply w n l]
  exact select_oeq _ _ _ _

/-- The sum of the square roots of a column's entries, negative ones taken as zero. -/
def rootSum (u : FVec Ideal S1024x1 .f32) : FVec Ideal S1x1 .f32 :=
  broadcast S1x1 (extractAt ![0, 0, 0] (shapeCast S1x1x1 (multiReduction .add [1, 2] S1
    (shapeCast S1x1024x1 (sqrt (maximumf u (broadcast S1024x1 (Scalar.ofBits .f32 0x00000000#32)))) shapeCasts_S1024x1_S1x1024x1)
    0x00000000#32 reduces_S1x1024x1_S1 (.inl rfl) rfl) shapeCasts_S1_S1x1x1) inpos_S1x1x1_p0_0_0)

theorem rootSum_apply (u : FVec Ideal S1024x1 .f32) :
    rootSum u (ix2 0 0) = ∑ n : Fin 1024, Ideal.sqrt (max (u (ix2 n 0)) 0) := by
  unfold rootSum
  pointwise
  simp

theorem rootSum_add (u v : FVec Ideal S1024x1 .f32) :
    rootSum (addf u v) (ix2 0 0) = ∑ n : Fin 1024, Ideal.sqrt (max (u (ix2 n 0) + v (ix2 n 0)) 0) := by
  rw [rootSum_apply]
  rfl

/-- The block's row part as the root sum of the row minima with the minima of the masked corrections added. -/
theorem pay11_eq (d e : FVec Ideal S1024x4096 .f32) :
    k0_pay11 d e = rootSum (addf (rowLeast d) (rowLeast (rowMask d e (rowLeast d)))) := by
  unfold k0_pay11 rootSum rowMask rowLeast
  rfl

theorem pay11_apply (d e : FVec Ideal S1024x4096 .f32) :
    k0_pay11 d e (ix2 0 0) = ∑ n : Fin 1024, Ideal.sqrt (max (rowLeast d (ix2 n 0) + rowLeast (rowMask d e (rowLeast d)) (ix2 n 0)) 0) := by
  rw [pay11_eq]
  exact rootSum_add _ _

end Cert.KernelIdeal.Chamfer

end
-- ==== Proof.KernelIdeal.BlockValue.lean ====
module

public import proofs.«01_k».proof.Proof.KernelIdeal.BlockDist
public import proofs.«01_k».proof.Proof.KernelIdeal.BlockMin
public import Idealize.ShloMosaic.Lib.Pointwise

/-! What one block adds to the result and to the carried column minima, when its distances are real and its corrections vanish. -/

@[expose] public section

set_option maxRecDepth 16384

noncomputable section

namespace Cert.KernelIdeal.Chamfer

open Idealize.ShloMosaic
open Cert.KernelIdeal Cert.KernelIdeal.Gen Cert.Chamfer

/-- The root of a real that is not negative. -/
theorem sqrt_coe (x : ℝ) (hx : 0 ≤ x) : Ideal.sqrt (x : EReal) = ((√x : ℝ) : EReal) := by
  show (if x < 0 then (⊥ : EReal) else _) = _
  rw [if_neg (not_lt.mpr hx)]

variable (d e : FVec Ideal S1024x4096 .f32) (D : Fin 1024 → Fin 4096 → ℝ)

theorem rowLeast_real (hd : ∀ n l, d (ix2 n l) = (D n l : EReal)) (n : Fin 1024) : rowLeast d (ix2 n 0) = (minOf (D n) : EReal) := by
  rw [rowLeast_apply, lit_inf]
  simp only [hd]
  exact fold_min_coe _

/-- Some entry of a row is its minimum, where the mask lets the vanishing correction through: the masked minimum is zero. -/
theorem rowMask_real (hd : ∀ n l, d (ix2 n l) = (D n l : EReal)) (he : ∀ n l, e (ix2 n l) = (0 : EReal)) (n : Fin 1024) :
    rowLeast (rowMask d e (rowLeast d)) (ix2 n 0) = (0 : EReal) := by
  rw [rowLeast_apply, lit_inf]
  obtain ⟨l, hl⟩ := exists_minOf (D n)
  refine fold_min_eq _ _ ⟨l, ?_⟩ fun j => ?_
  · rw [rowMask_apply, rowLeast_real d D hd, hd, hl, if_pos rfl, he]
  · rw [rowMask_apply, lit_inf, he]
    split <;> simp

theorem col_real (hd : ∀ n l, d (ix2 n l) = (D n l : EReal)) (l : Fin 4096) : k0_pay12 d (ix2 0 l) = (minOf (fun n => D n l) : EReal) := by
  rw [pay12_apply, lit_inf]
  simp only [hd]
  exact fold_min_coe _

theorem colMask_real (hd : ∀ n l, d (ix2 n l) = (D n l : EReal)) (he : ∀ n l, e (ix2 n l) = (0 : EReal)) (l : Fin 4096) :
    k0_pay12 (colMask d e (k0_pay12 d)) (ix2 0 l) = (0 : EReal) := by
  rw [pay12_apply, lit_inf]
  obtain ⟨n, hn⟩ := exists_minOf (fun n => D n l)
  refine fold_min_eq _ _ ⟨n, ?_⟩ fun j => ?_
  · rw [colMask_apply, col_real d D hd, hd, hn, if_pos rfl, he]
  · rw [colMask_apply, lit_inf, he]
    split <;> simp

/-- The row part: the sum of the roots of the row minima. -/
theorem rowPart_real (hd : ∀ n l, d (ix2 n l) = (D n l : EReal)) (he : ∀ n l, e (ix2 n l) = (0 : EReal)) (hD : ∀ n l, 0 ≤ D n l) :
    k0_pay11 d e (ix2 0 0) = ((∑ n, √(minOf (D n)) : ℝ) : EReal) := by
  rw [pay11_apply, ← sum_coe]
  refine Finset.sum_congr rfl fun n _ => ?_
  rw [rowLeast_real d D hd, rowMask_real d e D hd he, add_zero, max_eq_left (EReal.coe_nonneg.mpr (minOf_nonneg _ (hD n))), sqrt_coe _ (minOf_nonneg _ (hD n))]

/-- The corrected column minima are the column minima. -/
theorem ex_real (hd : ∀ n l, d (ix2 n l) = (D n l : EReal)) (he : ∀ n l, e (ix2 n l) = (0 : EReal)) (hD : ∀ n l, 0 ≤ D n l) (l : Fin 4096) :
    k0_pay13 d e (ix2 0 l) = (minOf (fun n => D n l) : EReal) := by
  rw [pay13_apply, col_real d D hd, colMask_real d e D hd he, add_zero, max_eq_left (EReal.coe_nonneg.mpr (minOf_nonneg _ fun n => hD n l))]

theorem sameRow_apply (u : FVec Ideal S1x4096 .f32) (l : Fin 4096) :
    shapeCast S1x4096 u shapeCasts_S1x4096_S1x4096 (ix2 0 l) = u (ix2 0 l) := by
  pointwise

/-- A selection on "less". -/
theorem select_olt (x y a b : EReal) : Scalar.select (FloatOps.cmpf (F := Ideal) (φ := .f32) .olt x y) a b = if x < y then a else b := by
  show (if BitVec.ofBool (decide (x < y)) = 1 then a else b) = _
  by_cases h : x < y <;> simp [h]

theorem pay15_apply (l : Fin 4096) : k0_pay15 d (ix2 0 l) = k0_pay12 d (ix2 0 l) := by
  unfold k0_pay15
  exact sameRow_apply _ l
theorem pay16_apply (l : Fin 4096) : k0_pay16 d e (ix2 0 l) = k0_pay13 d e (ix2 0 l) := by
  unfold k0_pay16
  exact sameRow_apply _ l
theorem pay18_apply (u v : Vec Ideal S1x4096 .f32) (l : Fin 4096) :
    k0_pay18 d e u v (ix2 0 l) = if (k0_pay12 d (ix2 0 l) : EReal) < u (ix2 0 l) then k0_pay13 d e (ix2 0 l) else v (ix2 0 l) := by
  unfold k0_pay18 k0_pay17
  exact (sameRow_apply _ l).trans (select_olt _ _ _ _)
theorem pay19_apply (u v : Vec Ideal S1x4096 .f32) (l : Fin 4096) :
    k0_pay19 d u v (ix2 0 l) = if (k0_pay12 d (ix2 0 l) : EReal) < u (ix2 0 l) then k0_pay12 d (ix2 0 l) else v (ix2 0 l) := by
  unfold k0_pay19 k0_pay17
  exact (sameRow_apply _ l).trans (select_olt _ _ _ _)

/-- A part, scaled, is added to the result. -/
theorem pay1_apply (p o : Vec Ideal S1x1 .f32) (a b : ℝ) (hp : p (ix2 0 0) = (a : EReal)) (ho : o (ix2 0 0) = (b : EReal)) :
    k0_pay1 p o (ix2 0 0) = ((b + a * (1 / 16384) : ℝ) : EReal) := by
  unfold_payloads
  pointwise
  rw [hp, ho, lit_scale, ← EReal.coe_mul, ← EReal.coe_add]

/-- The sum of the roots of the corrected column minima, scaled, is added to the result. -/
theorem pay2_apply (o : Vec Ideal S1x1 .f32) (u : Vec Ideal S1x4096 .f32) (b : ℝ) (v : Fin 4096 → ℝ) (ho : o (ix2 0 0) = (b : EReal))
    (hu : ∀ l, u (ix2 0 l) = (v l : EReal)) (hv : ∀ l, 0 ≤ v l) :
    k0_pay2 o u (ix2 0 0) = ((b + (∑ l, √(v l)) * (1 / 16384) : ℝ) : EReal) := by
  unfold_payloads
  pointwise
  simp only [ho, hu, lit_scale, sqrt_coe _ (hv _), sum_coe, Finset.univ_unique, Finset.sum_singleton]
  rw [← EReal.coe_mul, ← EReal.coe_add]

/-- The result starts from zero. -/
theorem pay14_apply : (k0_pay14 (F := Ideal)) (ix2 0 0) = ((0 : ℝ) : EReal) := by
  unfold_payloads
  pointwise
  simp

end Cert.KernelIdeal.Chamfer

end
-- ==== Proof.Least.lean ====
module

public import proofs.«01_k».proof.Proof.Math

/-! The least of the first rows of a column, block of 1024 rows by block, and the running sum of the parts of sixteen points. -/

@[expose] public section

noncomputable section

namespace Cert.Chamfer

/-- `v` is the least of the first `N` entries of `g`. -/
def LeastBelow (g : Fin 4096 → ℝ) (N : ℕ) (v : ℝ) : Prop := (∃ n, n.val < N ∧ g n = v) ∧ ∀ n, n.val < N → v ≤ g n

/-- The least entry of block `i` of `g`. -/
def blockMin (g : Fin 4096 → ℝ) (i : ℕ) (hi : i < 4) : ℝ := minOf fun n : Fin 1024 => g ⟨1024 * i + n.val, by omega⟩

theorem leastBelow_first (g : Fin 4096 → ℝ) (i : ℕ) (hi : i < 4) (h0 : i = 0) : LeastBelow g (1024 * (i + 1)) (blockMin g i hi) := by
  subst h0
  refine ⟨?_, fun n hn => ?_⟩
  · obtain ⟨n, hn⟩ := exists_minOf fun n : Fin 1024 => g ⟨1024 * 0 + n.val, by omega⟩
    exact ⟨_, by show 1024 * 0 + n.val < _; omega, hn⟩
  · have h := minOf_le (fun n : Fin 1024 => g ⟨1024 * 0 + n.val, by omega⟩) ⟨n.val, by omega⟩
    have e : (⟨1024 * 0 + n.val, by omega⟩ : Fin 4096) = n := Fin.ext (by show 1024 * 0 + n.val = n.val; omega)
    simp only [e] at h
    exact h

/-- One more block: the lesser of what came before and the block's least. -/
theorem leastBelow_next (g : Fin 4096 → ℝ) (i : ℕ) (hi : i < 4) (v : ℝ) (h : LeastBelow g (1024 * i) v) :
    LeastBelow g (1024 * (i + 1)) (if blockMin g i hi < v then blockMin g i hi else v) := by
  obtain ⟨⟨n, hn, rfl⟩, hle⟩ := h
  obtain ⟨k, hk⟩ := exists_minOf fun n : Fin 1024 => g ⟨1024 * i + n.val, by omega⟩
  have hk : g ⟨1024 * i + k.val, by omega⟩ = blockMin g i hi := hk
  have hb : ∀ j : Fin 4096, 1024 * i ≤ j.val → j.val < 1024 * (i + 1) → blockMin g i hi ≤ g j := by
    intro j h1 h2
    have h := minOf_le (fun n : Fin 1024 => g ⟨1024 * i + n.val, by omega⟩) ⟨j.val - 1024 * i, by omega⟩
    have e : (⟨1024 * i + (j.val - 1024 * i), by omega⟩ : Fin 4096) = j := Fin.ext (by show 1024 * i + (j.val - 1024 * i) = j.val; omega)
    simp only [e] at h
    exact h
  split
  · next hlt =>
    refine ⟨⟨_, by show 1024 * i + k.val < _; omega, hk⟩, fun j hj => ?_⟩
    by_cases hj' : j.val < 1024 * i
    · exact hlt.le.trans (hle j hj')
    · exact hb j (by omega) hj
  · next hge =>
    refine ⟨⟨n, by omega, rfl⟩, fun j hj => ?_⟩
    by_cases hj' : j.val < 1024 * i
    · exact hle j hj'
    · exact (not_lt.mp hge).trans (hb j (by omega) hj)

theorem minOf_eq_of_leastBelow (g : Fin 4096 → ℝ) (N : ℕ) (hN : N = 4096) (v : ℝ) (h : LeastBelow g N v) : minOf g = v := by
  subst hN
  obtain ⟨⟨n, -, hn⟩, hle⟩ := h
  exact minOf_eq g v ⟨n, hn⟩ fun j => hle j j.isLt

/-! ## The sum over the points -/

variable (D : Fin 4 → Fin 4096 → Fin 4096 → ℝ)

/-- The sum over all rows of a batch of the root of the row's least entry. -/
def rowTotal (b : Fin 4) : ℝ := ∑ n, √(minOf (D b n))
/-- The sum over all columns of a batch of the root of the column's least entry. -/
def colTotal (b : Fin 4) : ℝ := ∑ l, √(minOf fun n => D b n l)
/-- The row sum of block `i` alone. -/
def rowBlock (b i : Fin 4) : ℝ := ∑ n : Fin 1024, √(minOf (D b ⟨1024 * i.val + n.val, by omega⟩))

theorem rowTotal_eq (b : Fin 4) : rowTotal D b = rowBlock D b 0 + rowBlock D b 1 + rowBlock D b 2 + rowBlock D b 3 := by
  unfold rowTotal
  rw [sum_blocks, Fin.sum_univ_four]
  rfl

/-- The result once point `n` has added its parts. -/
def accAt : ℕ → ℝ
  | 0 => 0 + rowBlock D 0 0 * (1 / 16384)
  | n + 1 =>
    if (n + 1) % 4 = 3 then
      accAt n + rowBlock D ⟨(n + 1) / 4 % 4, by omega⟩ ⟨(n + 1) % 4, by omega⟩ * (1 / 16384) + colTotal D ⟨(n + 1) / 4 % 4, by omega⟩ * (1 / 16384)
    else accAt n + rowBlock D ⟨(n + 1) / 4 % 4, by omega⟩ ⟨(n + 1) % 4, by omega⟩ * (1 / 16384)

theorem accAt_zero : accAt D 0 = 0 + rowBlock D ⟨0 / 4 % 4, by omega⟩ ⟨0 % 4, by omega⟩ * (1 / 16384) := by
  rw [accAt]
  rfl

/-- After the last point the result is the sum of all rows' and all columns' roots, divided by 16384. -/
theorem accAt_last : accAt D 15 = (∑ b, rowTotal D b + ∑ b, colTotal D b) / 16384 := by
  simp only [accAt, Nat.reduceAdd, Nat.reduceMod, Nat.reduceDiv, Nat.reduceEqDiff, if_true, if_false, Fin.sum_univ_four, rowTotal_eq]
  have e0 : (⟨0, by omega⟩ : Fin 4) = 0 := rfl
  have e1 : (⟨1, by omega⟩ : Fin 4) = 1 := rfl
  have e2 : (⟨2, by omega⟩ : Fin 4) = 2 := rfl
  have e3 : (⟨3, by omega⟩ : Fin 4) = 3 := rfl
  simp only [e0, e1, e2, e3]
  norm_num
  ring

end Cert.Chamfer

end
-- ==== Proof.KernelIdeal.Fold.lean ====
module

public import proofs.«01_k».proof.Proof.KernelIdeal.BlockValue
public import proofs.«01_k».proof.Proof.KernelIdeal.Run
public import proofs.«01_k».proof.Proof.Least

/-! What is carried after every point of the grid, over the extended reals, when the arguments hold reals: the result is
the running sum of the parts, and both carried rows are the column minima over the batch's rows seen so far. -/

@[expose] public section

set_option maxRecDepth 16384

noncomputable section

namespace Cert.KernelIdeal.Chamfer

open Idealize.ShloMosaic Idealize.ShloMosaic.TcCoe
open Cert.KernelIdeal Cert.KernelIdeal.Gen Cert.Chamfer

theorem stepFirst_col (x0 x1 : Vec Ideal S1x1024x3 .f32) (x2 : Vec Ideal S1x4096x3 .f32) (o : Vec Ideal S1x1 .f32) :
    (stepFirst x0 x1 x2 o).2.1 = k0_pay15 (dist2 x0 x1 x2) := by
  unfold stepFirst
  dsimp only
theorem stepFirst_ex (x0 x1 : Vec Ideal S1x1024x3 .f32) (x2 : Vec Ideal S1x4096x3 .f32) (o : Vec Ideal S1x1 .f32) :
    (stepFirst x0 x1 x2 o).2.2 = k0_pay16 (dist2 x0 x1 x2) (corr x0 x1 x2) := by
  unfold stepFirst
  dsimp only

/-- Squared distances of batch `b`: from (source + flow) point `n` to target point `l`. -/
abbrev distOf (s t f : Fin 4 → Fin 4096 → Fin 3 → ℝ) : Fin 4 → Fin 4096 → Fin 4096 → ℝ :=
  fun b n l => distSq (fun k => s b n k + f b n k) (t b l)

variable (m : (ℓ : Loc nD τ sig) → Buf (Elt Ideal) ℓ) (c : Dev nD) (s t f : Fin 4 → Fin 4096 → Fin 3 → ℝ)

/-- The arguments hold the reals `s` (source), `t` (target) and `f` (flow). -/
structure Reals : Prop where
  src : ∀ b n k, m ((c : Thread nD τ).loc main_arg0) (ix3 b n k) = (s b n k : EReal)
  tgt : ∀ b n k, m ((c : Thread nD τ).loc main_arg1) (ix3 b n k) = (t b n k : EReal)
  flow : ∀ b n k, m ((c : Thread nD τ).loc main_arg2) (ix3 b n k) = (f b n k : EReal)

variable {m c s t f} (hR : Reals m c s t f)
include hR

/-- The distances point `p` sees. -/
theorem dist2_at (p : Fin cfg0.N) (n : Fin 1024) (l : Fin 4096) :
    dist2 (srcBlk m c p) (flowBlk m c p) (tgtBlk m c p) (ix2 n l)
      = (distOf s t f ⟨p.val / 4, batch_lt p⟩ ⟨1024 * (p.val % 4) + n.val, row_lt p n⟩ l : EReal) :=
  dist2_apply _ _ _ (fun n => s ⟨p.val / 4, batch_lt p⟩ ⟨1024 * (p.val % 4) + n.val, row_lt p n⟩)
    (fun n => f ⟨p.val / 4, batch_lt p⟩ ⟨1024 * (p.val % 4) + n.val, row_lt p n⟩) (fun l => t ⟨p.val / 4, batch_lt p⟩ l)
    (fun n k => (srcBlk_apply m c p n k).trans (hR.src _ _ _)) (fun n k => (flowBlk_apply m c p n k).trans (hR.flow _ _ _))
    (fun n k => (tgtBlk_apply m c p n k).trans (hR.tgt _ _ _)) n l

/-- The corrections vanish at every point. -/
theorem corr_at (p : Fin cfg0.N) (n : Fin 1024) (l : Fin 4096) :
    corr (srcBlk m c p) (flowBlk m c p) (tgtBlk m c p) (ix2 n l) = (0 : EReal) :=
  corr_apply _ _ _ (fun n => s ⟨p.val / 4, batch_lt p⟩ ⟨1024 * (p.val % 4) + n.val, row_lt p n⟩)
    (fun n => f ⟨p.val / 4, batch_lt p⟩ ⟨1024 * (p.val % 4) + n.val, row_lt p n⟩) (fun l => t ⟨p.val / 4, batch_lt p⟩ l)
    (fun n k => (srcBlk_apply m c p n k).trans (hR.src _ _ _)) (fun n k => (flowBlk_apply m c p n k).trans (hR.flow _ _ _))
    (fun n k => (tgtBlk_apply m c p n k).trans (hR.tgt _ _ _)) n l

/-- A point's row part goes into the result. -/
theorem addRows_at (p : Fin cfg0.N) (o : Vec Ideal S1x1 .f32) (a : ℝ) (ho : o (ix2 0 0) = (a : EReal)) :
    addRows (srcBlk m c p) (flowBlk m c p) (tgtBlk m c p) o (ix2 0 0)
      = ((a + rowBlock (distOf s t f) ⟨p.val / 4, batch_lt p⟩ ⟨p.val % 4, by omega⟩ * (1 / 16384) : ℝ) : EReal) :=
  pay1_apply _ _ _ _ (rowPart_real _ _ _ (dist2_at hR p) (corr_at hR p) fun n l => distSq_nonneg _ _) ho

theorem col_at (p : Fin cfg0.N) (l : Fin 4096) :
    k0_pay12 (dist2 (srcBlk m c p) (flowBlk m c p) (tgtBlk m c p)) (ix2 0 l)
      = (blockMin (fun n => distOf s t f ⟨p.val / 4, batch_lt p⟩ n l) (p.val % 4) (by omega) : EReal) :=
  col_real _ _ (dist2_at hR p) l

theorem ex_at (p : Fin cfg0.N) (l : Fin 4096) :
    k0_pay13 (dist2 (srcBlk m c p) (flowBlk m c p) (tgtBlk m c p)) (corr (srcBlk m c p) (flowBlk m c p) (tgtBlk m c p)) (ix2 0 l)
      = (blockMin (fun n => distOf s t f ⟨p.val / 4, batch_lt p⟩ n l) (p.val % 4) (by omega) : EReal) :=
  ex_real _ _ _ (dist2_at hR p) (corr_at hR p) (fun n l => distSq_nonneg _ _) l
omit hR

/-- What is carried after point `n`: the running sum, and in both rows the least distance of every column over the batch's
rows up to the point's block. -/
def Carried (s t f : Fin 4 → Fin 4096 → Fin 3 → ℝ) (n : ℕ) (σ : State Ideal) : Prop :=
  σ.1 (ix2 0 0) = (accAt (distOf s t f) n : EReal) ∧ ∃ v : Fin 4096 → ℝ, (∀ l, σ.2.1 (ix2 0 l) = (v l : EReal)) ∧ (∀ l, σ.2.2 (ix2 0 l) = (v l : EReal))
    ∧ ∀ l, LeastBelow (fun n' => distOf s t f ⟨n / 4 % 4, by omega⟩ n' l) (1024 * (n % 4 + 1)) (v l)

/-- A batch's number, at a point of the grid. -/
theorem batch_eq (p : Fin cfg0.N) : (⟨p.val / 4, batch_lt p⟩ : Fin 4) = ⟨p.val / 4 % 4, by omega⟩ :=
  Fin.ext (Nat.mod_eq_of_lt (batch_lt p)).symm
include hR

/-- A batch's first point starts the rows afresh. -/
theorem carried_first (p : Fin cfg0.N) (hp : p.val % 4 = 0) (o : Vec Ideal S1x1 .f32) (a : ℝ) (ho : o (ix2 0 0) = (a : EReal))
    (ha : accAt (distOf s t f) p.val = a + rowBlock (distOf s t f) ⟨p.val / 4 % 4, by omega⟩ ⟨p.val % 4, by omega⟩ * (1 / 16384)) :
    Carried s t f p.val (stepFirst (srcBlk m c p) (flowBlk m c p) (tgtBlk m c p) o) := by
  refine ⟨?_, fun l => blockMin (fun n => distOf s t f ⟨p.val / 4 % 4, by omega⟩ n l) (p.val % 4) (by omega), fun l => ?_, fun l => ?_,
    fun l => leastBelow_first _ _ _ hp⟩
  · refine (addRows_at hR p o a ho).trans ?_
    rw [ha, batch_eq]
  · rw [stepFirst_col, pay15_apply, col_at hR p l, batch_eq]
  · rw [stepFirst_ex, pay16_apply, ex_at hR p l, batch_eq]

/-- At a later point both rows become the lesser of what they were and the block's minima. -/
theorem rows_later (p : Fin cfg0.N) (n : ℕ) (hn : p.val = n + 1) (hp : p.val % 4 ≠ 0) (s1 s2 : Vec Ideal S1x4096 .f32) (v : Fin 4096 → ℝ)
    (h1 : ∀ l, s1 (ix2 0 l) = (v l : EReal)) (h2 : ∀ l, s2 (ix2 0 l) = (v l : EReal))
    (hv : ∀ l, LeastBelow (fun n' => distOf s t f ⟨n / 4 % 4, by omega⟩ n' l) (1024 * (n % 4 + 1)) (v l)) :
    ∃ v' : Fin 4096 → ℝ, (∀ l, colLater (srcBlk m c p) (flowBlk m c p) (tgtBlk m c p) s1 (ix2 0 l) = (v' l : EReal))
      ∧ (∀ l, exLater (srcBlk m c p) (flowBlk m c p) (tgtBlk m c p) s1 s2 (ix2 0 l) = (v' l : EReal))
      ∧ ∀ l, LeastBelow (fun n' => distOf s t f ⟨p.val / 4 % 4, by omega⟩ n' l) (1024 * (p.val % 4 + 1)) (v' l) := by
  refine ⟨fun l => if blockMin (fun n => distOf s t f ⟨p.val / 4 % 4, by omega⟩ n l) (p.val % 4) (by omega) < v l then
    blockMin (fun n => distOf s t f ⟨p.val / 4 % 4, by omega⟩ n l) (p.val % 4) (by omega) else v l, fun l => ?_, fun l => ?_, fun l => ?_⟩
  · refine (pay19_apply _ _ _ l).trans ?_
    rw [col_at hR p l, h1, batch_eq]
    simp only [EReal.coe_lt_coe_iff]
    split <;> rfl
  · refine (pay18_apply _ _ _ _ l).trans ?_
    rw [col_at hR p l, ex_at hR p l, h1, h2, batch_eq]
    simp only [EReal.coe_lt_coe_iff]
    split <;> rfl
  · refine leastBelow_next _ _ _ _ ?_
    have e : (⟨p.val / 4 % 4, by omega⟩ : Fin 4) = ⟨n / 4 % 4, by omega⟩ := Fin.ext (by show p.val / 4 % 4 = n / 4 % 4; omega)
    have e' : p.val % 4 = n % 4 + 1 := by omega
    rw [e, e']
    exact hv l

/-- What is carried after every point. -/
theorem carried (n : ℕ) (h : n < cfg0.N) : Carried s t f n (stAt m c n h) := by
  induction n with
  | zero =>
    rw [stAt_zero]
    exact carried_first hR ⟨0, h⟩ rfl _ 0 pay14_apply (accAt_zero _)
  | succ n ih =>
    obtain ⟨ha, v, h1, h2, hv⟩ := ih (Nat.lt_of_succ_lt h)
    by_cases hn : (n + 1) % 4 = 0
    · rw [stAt_first m c n h hn]
      refine carried_first hR ⟨n + 1, h⟩ hn _ _ ha ?_
      rw [accAt, if_neg (by omega)]
    obtain ⟨v', h1', h2', hv'⟩ := rows_later hR ⟨n + 1, h⟩ n rfl hn _ _ v h1 h2 hv
    by_cases hn' : (n + 1) % 4 = 3
    · rw [stAt_last m c n h hn']
      refine ⟨?_, v', h1', h2', hv'⟩
      have h0 : ∀ l, 0 ≤ v' l := fun l => by
        obtain ⟨⟨n', -, e⟩, -⟩ := hv' l
        rw [← e]; exact distSq_nonneg _ _
      refine (pay2_apply _ _ _ v' (addRows_at hR ⟨n + 1, h⟩ _ _ ha) h2' h0).trans ?_
      rw [accAt, if_pos hn', batch_eq]
      have ec : ∑ l, √(v' l) = colTotal (distOf s t f) ⟨(n + 1) / 4 % 4, by omega⟩ := by
        unfold colTotal
        refine Finset.sum_congr rfl fun l _ => ?_
        rw [minOf_eq_of_leastBelow _ _ (by show 1024 * ((n + 1) % 4 + 1) = 4096; omega) _ (hv' l)]
      rw [ec]
    · rw [stAt_mid m c n h hn hn']
      refine ⟨(addRows_at hR ⟨n + 1, h⟩ _ _ ha).trans ?_, v', h1', h2', hv'⟩
      rw [accAt, if_neg hn', batch_eq]

/-- The result after the last point: the mean of all roots of row minima, and that of all roots of column minima, added. -/
theorem result_last (n : ℕ) (hn : n = 15) (h : n < cfg0.N) :
    (stAt m c n h).1 (ix2 0 0) = (((∑ b, rowTotal (distOf s t f) b + ∑ b, colTotal (distOf s t f) b) / 16384 : ℝ) : EReal) := by
  rw [(carried hR n h).1, hn, accAt_last]

end Cert.KernelIdeal.Chamfer

end
-- ==== Proof.Finite.lean ====
module

public import proofs.«01_k».proof.Proof.KernelIdeal.Fold
public import proofs.«01_k».proof.Proof.Gen.Pre_finite
public import Idealize.ShloMosaic.Lib.ReduceAll

/-! The precondition `finite` over the extended reals: every coordinate is a real number. -/

@[expose] public section

noncomputable section

namespace Cert.Chamfer

open Idealize.ShloMosaic Idealize.ShloMosaic.TcCoe

/-- The literal `+∞`. -/
theorem lit_top : Ideal.ofBits .f32 0x7F800000#32 = ⊤ := by
  simp [Ideal.ofBits, Ideal.ieee, -EReal.coe_mul]

/-- An extended real whose absolute value is below `+∞` is a real number. -/
theorem real_of_abs_lt (x : Ideal .f32) (h : FloatOps.cmpf .olt (FloatOps.hostAbsf x) (Ideal.ofBits .f32 0x7F800000#32 : Ideal .f32) = 1#1) :
    ∃ r : ℝ, x = (r : EReal) := by
  have h1 : max x (-x) < (⊤ : EReal) := by
    rw [lit_top] at h
    by_contra hn
    have h2 : (FloatOps.cmpf .olt (FloatOps.hostAbsf x) (⊤ : EReal) : BitVec 1) = 0#1 := by
      show BitVec.ofBool (decide (max x (-x) < (⊤ : EReal))) = 0#1
      rw [decide_eq_false hn]; rfl
    exact absurd (h.symm.trans h2) (by decide)
  have ht : x ≠ (⊤ : EReal) := fun e => by rw [e] at h1; simp at h1
  have hb : x ≠ (⊥ : EReal) := fun e => by rw [e] at h1; simp at h1
  exact ⟨EReal.toReal x, (EReal.coe_toReal ht hb).symm⟩

instance : Subsingleton Pre_finite.S_.Idx := ⟨fun i j => funext fun a => a.elim0⟩

open Pre_finite Pre_finite.Gen in
/-- Where the precondition holds, every coordinate of the three arrays is a real number. -/
theorem finite_real (x y z : FVec Ideal Pre_finite.S4x4096x3 .f32) (h : Pre_finite.fn x y z = fun _ => 1#1) :
    (∀ i, ∃ r : ℝ, x i = (r : EReal)) ∧ (∀ i, ∃ r : ℝ, y i = (r : EReal)) ∧ (∀ i, ∃ r : ℝ, z i = (r : EReal)) := by
  have h0 := congrFun h ix0
  unfold Pre_finite.fn at h0
  dsimp only at h0
  obtain ⟨h01, h2⟩ := IntOp.andi_eq_one.1 h0
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.Chamfer
-- ==== Proof.KernelIdeal.Result.lean ====
module

public import proofs.«01_k».proof.Proof.KernelIdeal.Fold
public import Idealize.ShloMosaic.Lib.Pipeline.ValueKit

/-! What the kernel program's result holds after a run from arguments that hold reals. -/

@[expose] public section

set_option maxRecDepth 16384

noncomputable section

namespace Cert.KernelIdeal.Chamfer

open Idealize.ShloMosaic Idealize.ShloMosaic.TcCoe Idealize.ShloMosaic.Tactic
open Idealize.SL.Sem
open Idealize.ShloMosaic.Pipeline (Dat)
open Cert.KernelIdeal Cert.KernelIdeal.Gen Cert.Chamfer

variable (m : (ℓ : Loc nD τ sig) → Buf (Elt Ideal) ℓ) (ρ : Dev nD → PrngReg)

/-- The number the kernel computes: the mean root of the row minima and that of the column minima, added. -/
def meanOf (s t f : Fin 4 → Fin 4096 → Fin 3 → ℝ) : ℝ :=
  (∑ b, rowTotal (distOf s t f) b + ∑ b, colTotal (distOf s t f) b) / 16384

/-- The last point of the grid. -/
def lastPt : Fin cfg0.N := ⟨15, by rw [show cfg0.N = 16 from N_0]; decide⟩

theorem wholeAt_last : (cfg0.win 3).WholeAt lastPt := by
  refine ⟨(flush0_3 lastPt).mpr rfl, fun t h => ?_, by decide +kernel⟩
  have ht : t.val < 16 := Nat.lt_of_lt_of_eq t.isLt N_0
  have h' := (flush0_3 t).mp h
  apply Fin.ext
  show t.val = 15
  omega

/-- A 1×1 array has one index. -/
theorem idx_one (i : S1x1.Idx) : i = ix2 0 0 := by
  funext a; exact Fin.ext (by have := (i a).isLt; revert this; fin_cases a <;> simp [S1x1, ix2] <;> omega)

/-- The output array after the launch, whatever its staging buffer holds: it is written back once, after the last point. -/
theorem out_of_last (c : Dev nD) (dat : Dat τ (Elt Ideal) Unit ℕ (UR sig nD τ) ℕ cfg0 c) :
    dat.arrAt 3 cfg0.N = fun _ => dat.after 3 lastPt (ix2 0 0) := by
  refine dat.arrAt_eq_of_after_last 3 lastPt wholeAt_last _ fun j => ?_
  exact (cast_eq _ _).trans (congrArg (dat.after 3 lastPt) (idx_one _))

theorem arr_injective : Function.Injective (Pipeline.arrRef (cfgs 0).spec) := by decide +kernel

/-- The reading of a 1×1 array as a scalar. -/
theorem scalar_of_one (x : Vec Ideal S1x1 .f32) (i : S_.Idx) : shapeCast S_ x shapeCasts_S1x1_S_ i = x (ix2 0 0) :=
  congrArg x (idx_one _)

/-- The host line after the launch, at any contents before it. -/
theorem reshape_line (W : Valuation τ sig (Elt Ideal)) :
    StableHlo.after [hostOps1].flatten W (Proc.devRef .tc main_v0) = shapeCast S_ (W (Proc.devRef .tc main_call0_v0) : Vec Ideal S1x1 .f32) shapeCasts_S1x1_S_ := by
  simp only [List.flatten_cons, List.flatten_nil, List.append_nil]
  after_results
  rfl

/-- The host line after the launch reads the output array as a scalar. -/
theorem tail_value (c : Dev nD) (i : S_.Idx) :
    Pipeline.afterTail₀ cfgs (dats m) 0 (V0 m) [hostOps1] c main_v0 i = (dats m 0 c).after 3 lastPt (ix2 0 0) := by
  unfold Pipeline.afterTail₀
  rw [reshape_line, scalar_of_one]
  have h := Pipeline.withArrays_arr (cfgs 0).spec arr_injective c (V0 m c) (fun w => (dats m 0 c).arrAt w (cfgs 0).N) 3
  exact congrFun (h.trans (out_of_last c (dats m 0 c))) (ix2 0 0)

theorem v0_mem : main_v0 ∈ Pipeline.restRefs sig (cfgs 0).spec := by decide +kernel

/-- The kernel program, run from arguments that hold reals on every core. -/
theorem run_value (s t f : Dev nD → Fin 4 → Fin 4096 → Fin 3 → ℝ) (hR : ∀ c, Reals m c (s c) (t c) (f c)) :
    θ_run defs (onTc (τ := τ) (main (F := Ideal))) ⟨m, fun _ => 0, ρ⟩ (fun r => ∀ c : Dev nD,
      r.2.mem ((c.tc : Thread nD τ).loc main_v0) = (fun _ => (meanOf (s c) (t c) (f c) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1.1 c).2 main_v0 v0_mem).trans (funext fun i => (tail_value m c i).trans ((congrFun (after_out m c lastPt) (ix2 0 0)).trans (result_last (hR c) lastPt.val rfl lastPt.isLt))), h.2.1 c⟩)
    (θ_run_and (run_main m ρ) (frame m ρ))

end Cert.KernelIdeal.Chamfer

end
-- ==== Proof.ReferenceIdeal.Terms.lean ====
module

public import proofs.«01_k».proof.Proof.Gen.ReferenceIdeal.Run
public import Idealize.ShloMosaic.PureOps.Ideal

/-! The reference's result written with a few named parts: the negated squared distances from every query point to every
    target point, the index of the greatest of them, the point at that index, the distance to it, and the mean. -/

@[expose] public section

set_option maxRecDepth 16384

noncomputable section

namespace Cert.ReferenceIdeal.Chamfer

open Idealize.ShloMosaic Idealize.ShloMosaic.TcCoe
open Cert.ReferenceIdeal Cert.ReferenceIdeal.Gen Cert.ReferenceIdeal.Value

/-- The squared norms of the points of a cloud. -/
def sqNorm (x : FVec Ideal S4x4096x3 .f32) : FVec Ideal S4x4096 .f32 :=
  Host.reduceAdd (mulf x x) (constant S_ .f32 0x00000000#32) reducesTo_S4x4096x3_S4x4096_d2 h_S_

/-- Minus the squared distance of every point of `x` to every point of `y`. -/
def negDist (x y : FVec Ideal S4x4096x3 .f32) : FVec Ideal S4x4096x4096 .f32 :=
  Host.negf (subf
    (addf (broadcastInDim S4x4096x4096 ![0, 1, 2] bcast_S4x4096x1_S4x4096x4096_0_1_2
        (broadcastInDim S4x4096x1 ![0, 1] bcast_S4x4096_S4x4096x1_0_1 (sqNorm x)))
      (broadcastInDim S4x4096x4096 ![0, 1, 2] bcast_S4x1x4096_S4x4096x4096_0_1_2
        (broadcastInDim S4x1x4096 ![0, 2] bcast_S4x4096_S4x1x4096_0_2 (sqNorm y))))
    (mulf (broadcastInDim S4x4096x4096 ![] bcast_S_S4x4096x4096 (constant S_ .f32 0x40000000#32))
      (Host.dotGeneral dot_S4x4096x3_S4x4096x3_S4x4096x4096_2_2_1_1_0_0 none x y)))

/-- The index of the greatest entry along the last axis. -/
def topIdx (d : FVec Ideal S4x4096x4096 .f32) : IVec S4x4096x1 32 :=
  (Host.topK S4x4096x1 2 (FloatOps.cmpfTotal .gt) d sliceFits_S4x4096x4096_S4x4096x1).2

/-- An index of a point, a negative one counted from the end. -/
def wrapIdx (i : IVec S4x4096x1 32) : IVec S4x4096x1 32 :=
  select (cmpi .slt i (broadcastInDim S4x4096x1 ![] bcast_S_S4x4096x1 (constantI S_ 32 0#32)))
    (addi i (broadcastInDim S4x4096x1 ![] bcast_S_S4x4096x1 (constantI S_ 32 4096#32))) i

/-- The number of every batch. -/
def batchNo : IVec S4x1x1 32 := broadcastInDim S4x1x1 ![0] bcast_S4_S4x1x1_0 (iotaInDim S4 32 0)

/-- The number of every batch, a negative one counted from the end. -/
def wrapBatch : IVec S4x1x1 32 :=
  select (cmpi .slt batchNo (broadcastInDim S4x1x1 ![] bcast_S_S4x1x1 (constantI S_ 32 0#32)))
    (addi batchNo (broadcastInDim S4x1x1 ![] bcast_S_S4x1x1 (constantI S_ 32 4#32))) batchNo

/-- For every query point, the batch and the index of the point to read. -/
def pairIdx (i : IVec S4x4096x1 32) : IVec S4x4096x1x2 32 :=
  fn_main_v30 (F := Ideal)
    (broadcastInDim S4x4096x1x1 ![0, 1, 2] bcast_S4x4096x1_S4x4096x1x1_0_1_2
        (broadcastInDim S4x4096x1 ![0, 1, 2] bcast_S4x1x1_S4x4096x1_0_1_2 wrapBatch))
    (broadcastInDim S4x4096x1x1 ![0, 1, 2] bcast_S4x4096x1_S4x4096x1x1_0_1_2 (wrapIdx i))

/-- The points of `y` at those places. -/
def pointAt (y : FVec Ideal S4x4096x3 .f32) (i : IVec S4x4096x1 32) : FVec Ideal S4x4096x1x3 .f32 :=
  Host.gather gather_S4x4096x3_S4x4096x1x2_S4x4096x1x3_3_01_n_n_01_3_113 y (pairIdx i)

/-- The absolute coordinate differences of every point of `x` to the point paired with it. -/
def absDiff (x : FVec Ideal S4x4096x3 .f32) (p : FVec Ideal S4x4096x1x3 .f32) : FVec Ideal S4x4096x1x3 .f32 :=
  Host.absf (subf (broadcastInDim S4x4096x1x3 ![0, 1, 3] bcast_S4x4096x3_S4x4096x1x3_0_1_3 x) p)

/-- The mean, over one neighbour, of the square roots of the sums of squares. -/
def rootOf (e : FVec Ideal S4x4096x1x3 .f32) : FVec Ideal S4x4096 .f32 :=
  Host.divf (Host.reduceAdd
      (Host.powf (Host.reduceAdd (mulf e e) (constant S_ .f32 0x00000000#32) reducesTo_S4x4096x1x3_S4x4096x1_d3 h_S_)
        (broadcastInDim S4x4096x1 ![] bcast_S_S4x4096x1 (constant S_ .f32 0x3F000000#32)))
      (constant S_ .f32 0x00000000#32) reducesTo_S4x4096x1_S4x4096_d2 h_S_)
    (broadcastInDim S4x4096 ![] bcast_S_S4x4096 (constant S_ .f32 0x3F800000#32))

/-- The distance of every point of `x` to the nearest point of `y`. -/
def nearest (x y : FVec Ideal S4x4096x3 .f32) : FVec Ideal S4x4096 .f32 :=
  rootOf (absDiff x (pointAt y (topIdx (negDist x y))))

/-- The sum of all entries over their number. -/
def meanAll (u : FVec Ideal S4x4096 .f32) : FVec Ideal S_ .f32 :=
  Host.divf (Host.reduceAdd u (constant S_ .f32 0x00000000#32) reducesTo_S4x4096_S_d0_1 h_S_) (constant S_ .f32 0x46800000#32)

/-- The chamfer distance of two clouds as the reference forms it. -/
def chamfer (x y : FVec Ideal S4x4096x3 .f32) : FVec Ideal S_ .f32 :=
  meanAll (addf (nearest x y) (nearest y x))

/-- The reference's result is the chamfer distance of the moved source cloud and the target cloud. -/
theorem result_eq (m : (ℓ : Loc nD τ sig) → Buf (Elt Ideal) ℓ) (c : Dev nD) :
    res_main_v85 m c = chamfer (addf (m ((c : Thread nD τ).loc main_arg0)) (m ((c : Thread nD τ).loc main_arg2)))
      (m ((c : Thread nD τ).loc main_arg1)) := by
  unfold res_main_v85 chamfer meanAll nearest rootOf absDiff pointAt pairIdx fn_main_v30 wrapIdx wrapBatch batchNo topIdx negDist sqNorm
  rfl

end Cert.ReferenceIdeal.Chamfer
-- ==== Proof.ReferenceIdeal.Dist.lean ====
module

public import proofs.«01_k».proof.Proof.ReferenceIdeal.Terms
public import proofs.«01_k».proof.Proof.Math
public import Idealize.ShloMosaic.Lib.Pointwise

/-! The negated squared distances of the reference, when the coordinates are real. -/

@[expose] public section

set_option maxRecDepth 16384

noncomputable section

namespace Cert.ReferenceIdeal.Chamfer

open Idealize.ShloMosaic
open Cert.ReferenceIdeal Cert.ReferenceIdeal.Gen Cert.Chamfer

/-- The literal `2`. -/
theorem lit_two : Ideal.ofBits .f32 0x40000000#32 = ((2 : ℝ) : EReal) := by
  simp [Ideal.ofBits, Ideal.ieee, -EReal.coe_mul]; norm_num

/-- An entry of the negated squared distances. -/
theorem negDist_apply (x y : FVec Ideal S4x4096x3 .f32) (X Y : Fin 4 → Fin 4096 → Fin 3 → ℝ)
    (hx : ∀ b n k, x (ix3 b n k) = (X b n k : EReal)) (hy : ∀ b n k, y (ix3 b n k) = (Y b n k : EReal))
    (b : Fin 4) (n l : Fin 4096) :
    negDist x y (ix3 b n l) = ((-(distSq (X b n) (Y b l)) : ℝ) : EReal) := by
  unfold negDist sqNorm
  pointwise
  simp only [hx, hy, lit_two, Fin.sum_univ_three, Ideal.ofBits_zero_f32]
  simp only [← EReal.coe_add, ← EReal.coe_mul, ← EReal.coe_sub, ← EReal.coe_neg]
  congr 1
  unfold distSq
  ring

end Cert.ReferenceIdeal.Chamfer
-- ==== Proof.ReferenceIdeal.Gather.lean ====
module

public import Idealize.ShloMosaic.Lib.ValueIdx
public import Idealize.ShloMosaic.Lib.Pointwise

/-! A gather of whole points out of a batch of clouds: the start indices name the batch and the point. -/

@[expose] public section

noncomputable section

namespace Cert.Chamfer

open Idealize.ShloMosaic

section
variable {A M N K : Nat} {α : Type}

/-- A start index that is in range is not clamped. -/
theorem clamp_eq {w : BitVec 32} {k L : Nat} (hk : k < L) (hL : L < 2 ^ 31) (hw : w = BitVec.ofNat 32 k) :
    min w.toInt.toNat (L - 1) = k := by
  have h1 : (BitVec.ofNat 32 k).toNat = k := by
    rw [BitVec.toNat_ofNat]; exact Nat.mod_eq_of_lt (by omega)
  have h2 : (BitVec.ofNat 32 k).toInt = (k : Int) := by
    rw [BitVec.toInt_eq_toNat_of_lt (by rw [h1]; omega), h1]
  rw [hw, h2, Int.toNat_natCast]
  omega

/-- The dimension numbers of a gather of one point of `K` coordinates at each batch and point number. -/
abbrev pointDims (A M N K : Nat)
    (wf : GatherDims.WF ⟨3, ![A, M, K]⟩ ⟨4, ![A, N, 1, 2]⟩ ⟨4, ![A, N, 1, K]⟩ [3] [0, 1] [] [0, 1] [] 3 ![1, 1, K]) :
    GatherDims ⟨3, ![A, M, K]⟩ ⟨4, ![A, N, 1, 2]⟩ ⟨4, ![A, N, 1, K]⟩ where
  offsetDims := [3]
  collapsedSliceDims := [0, 1]
  operandBatchingDims := []
  startIndicesBatchingDims := []
  startIndexMap := [0, 1]
  indexVectorDim := 3
  sliceSizes := ![1, 1, K]
  wf := wf

variable (wf : GatherDims.WF ⟨3, ![A, M, K]⟩ ⟨4, ![A, N, 1, 2]⟩ ⟨4, ![A, N, 1, K]⟩ [3] [0, 1] [] [0, 1] [] 3 ![1, 1, K])
  (idx : IVec ⟨4, ![A, N, 1, 2]⟩ 32) (b : Fin A) (n : Fin N) (k : Fin K)

/-- Component `c` of the start index of a query point stands at `c` on the last axis of the start indices. -/
theorem component_at (c : Fin 2) : (pointDims A M N K wf).siIdx (ix4 b n 0 k) c = ix4 b n 0 c := by
  funext a
  refine Fin.ext ?_
  match a with
  | ⟨0, _⟩ => rfl
  | ⟨1, _⟩ => rfl
  | ⟨2, _⟩ => rfl
  | ⟨3, _⟩ => rfl

/-- The slice starts, on the batch axis, at the first component of the start index. -/
theorem start_batch : (pointDims A M N K wf).start (ix4 b n 0 k) idx 0 = min (idx (ix4 b n 0 0)).toInt.toNat (A - 1) := by
  have hm : (0 : Fin 3) ∈ (pointDims A M N K wf).startIndexMap := List.mem_cons_self
  unfold GatherDims.start
  rw [dif_pos hm]
  exact congrArg (fun i => min (idx i).toInt.toNat (A - 1)) (component_at wf b n k 0)

/-- The slice starts, on the axis of points, at the second component of the start index. -/
theorem start_point : (pointDims A M N K wf).start (ix4 b n 0 k) idx 1 = min (idx (ix4 b n 0 1)).toInt.toNat (M - 1) := by
  have hm : (1 : Fin 3) ∈ (pointDims A M N K wf).startIndexMap := List.mem_cons_of_mem _ List.mem_cons_self
  unfold GatherDims.start
  rw [dif_pos hm]
  exact congrArg (fun i => min (idx i).toInt.toNat (M - 1)) (component_at wf b n k 1)

/-- On the axis of coordinates every slice starts at 0. -/
theorem start_coord : (pointDims A M N K wf).start (ix4 b n 0 k) idx 2 = 0 := by
  unfold GatherDims.start
  exact dif_neg (show (2 : Fin 3) ∉ ([0, 1] : List (Fin 3)) by decide)

/-- On the axis of coordinates the result's own coordinate is read. -/
theorem off_coord : (pointDims A M N K wf).offCoord (ix4 b n 0 k) 2 = k.val := by
  have hm : (2 : Fin 3) ∈ (pointDims A M N K wf).sKept := (GatherDims.mem_sKept _ _).mpr
    ⟨show (2 : Fin 3) ∉ ([0, 1] : List (Fin 3)) by decide, List.not_mem_nil⟩
  unfold GatherDims.offCoord
  rw [dif_pos hm]
  rfl

/-- The gather reads, at a query point, the point whose batch and number the start indices hold there. -/
theorem gather_point (y : (⟨3, ![A, M, K]⟩ : Shape).Idx → α) (b' : Fin A) (l : Fin M) (hA : A < 2 ^ 31) (hM : M < 2 ^ 31)
    (h0 : idx (ix4 b n 0 0) = BitVec.ofNat 32 b'.val) (h1 : idx (ix4 b n 0 1) = BitVec.ofNat 32 l.val) :
    Host.gather (pointDims A M N K wf) y idx (ix4 b n 0 k) = y (ix3 b' l k) := by
  unfold Host.gather
  congr 1
  funext a
  refine Fin.ext ?_
  show (pointDims A M N K wf).start (ix4 b n 0 k) idx a + (pointDims A M N K wf).batchCoord (ix4 b n 0 k) a
    + (pointDims A M N K wf).offCoord (ix4 b n 0 k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 List.mem_cons_self)]
    exact (start_batch wf idx b n k).trans (clamp_eq b'.isLt hA h0)
  | ⟨1, _⟩ =>
    rw [GatherDims.offCoord_eq_zero _ _ _
      (fun h => ((GatherDims.mem_sKept _ _).mp h).1 (List.mem_cons_of_mem _ List.mem_cons_self))]
    exact (start_point wf idx b n k).trans (clamp_eq l.isLt hM h1)
  | ⟨2, _⟩ =>
    refine (congrArg₂ (· + ·) (start_coord wf idx b n k) (off_coord wf b n k)).trans ?_
    exact Nat.zero_add _
end

end Cert.Chamfer
-- ==== Proof.ReferenceIdeal.TopK.lean ====
module

public import Idealize.ShloMosaic.Lib.SortFacts
public import Idealize.ShloMosaic.Lib.Pointwise

/-! The index that a `top_k` of one element returns over the extended reals: it is the index of a greatest entry. -/

@[expose] public section

noncomputable section

namespace Cert.Chamfer

open Idealize.ShloMosaic

/-- The comparison by which `top_k` orders, as a decision: the left entry is the greater. -/
theorem gt_beq (a b : Ideal .f32) : ((FloatOps.cmpfTotal .gt a b : BitVec 1) == 1#1) = decide (@LT.lt EReal _ b a) := by
  show ((BitVec.ofBool (decide (@LT.lt EReal _ b a)) : BitVec 1) == 1#1) = _
  cases decide (@LT.lt EReal _ b a) <;> rfl

/-- The first position of the stable sort in descending order holds a greatest entry. -/
theorem first_greatest {K : Nat} (hK : 0 < K) (g : Fin K → EReal) (l : Fin K) :
    g l ≤ g (sortedFrom (fun k k' => decide (g k' < g k)) ⟨0, hK⟩) := by
  obtain ⟨i, hi⟩ := sortedFrom_surjective (fun k k' => decide (g k' < g k)) l
  rcases Nat.eq_zero_or_pos i.val with h0 | hpos
  · have : i = ⟨0, hK⟩ := Fin.ext h0
    rw [← hi, this]
  · have h := sortedFrom_noInversion (fun k k' => decide (g k' < g k)) (fun k k' => decide (g k' < g k))
      (fun a b h => decide_eq_false (not_lt.mpr (le_of_lt (of_decide_eq_true h))))
      (fun a b h => h)
      (fun a b c h h' => by
        have h1 := not_lt.mp (of_decide_eq_false h)
        have h2 := not_lt.mp (of_decide_eq_false h')
        exact decide_eq_false (not_lt.mpr (h1.trans h2)))
      ⟨0, hK⟩ i hpos
    rw [hi] at h
    exact not_lt.mp (of_decide_eq_false h)

/-- Along the last of three axes, position `k` of the fibre through an index is the index with `k` there. -/
theorem along_last {A N K : Nat} (b : Fin A) (n : Fin N) (l k : Fin K) :
    (ix3 b n l : (⟨3, ![A, N, K]⟩ : Shape).Idx).along 2 k = ix3 b n k := by
  funext a
  match a with
  | ⟨0, _⟩ => rfl
  | ⟨1, _⟩ => rfl
  | ⟨2, _⟩ => rfl

/-- The positions that a descending sort along the last of three axes carries along. -/
theorem sort2_index {A N K : Nat} (x : FVec Ideal ⟨3, ![A, N, K]⟩ .f32) (y : IVec ⟨3, ![A, N, K]⟩ 32)
    (b : Fin A) (n : Fin N) (l : Fin K) :
    (Host.sort2 ⟨3, ![A, N, K]⟩ 2 (fun p q => FloatOps.cmpfTotal .gt p.1 q.1) x y).2 (ix3 b n l)
      = y (ix3 b n (sortedFrom (fun k k' => decide (@LT.lt EReal _ (x (ix3 b n k')) (x (ix3 b n k)))) l)) := by
  have h2 : 2 < (⟨3, ![A, N, K]⟩ : Shape).rank := (by decide : 2 < 3)
  have hR : (fun k k' : Fin K => (FloatOps.cmpfTotal .gt (x ((ix3 b n l : (⟨3, ![A, N, K]⟩ : Shape).Idx).along 2 k))
      (x ((ix3 b n l : (⟨3, ![A, N, K]⟩ : Shape).Idx).along 2 k')) : BitVec 1) == 1#1)
      = fun k k' => decide (@LT.lt EReal _ (x (ix3 b n k')) (x (ix3 b n k))) := by
    funext k k'
    rw [along_last, along_last, gt_beq]
  unfold Host.sort2
  rw [dif_pos h2]
  refine (congrArg y (along_last b n l _)).trans ?_
  exact congrArg (fun R : Fin K → Fin K → Bool => y (ix3 b n (sortedFrom R l))) hR

/-- The index that `top_k` of one element returns along the last of three axes is that of a greatest entry. -/
theorem topK_greatest {A N K : Nat} (hK : 0 < K) (x : FVec Ideal ⟨3, ![A, N, K]⟩ .f32)
    (h : (⟨3, ![A, N, K]⟩ : Shape).Slices (fun _ => 0) ⟨3, ![A, N, 1]⟩) (b : Fin A) (n : Fin N) :
    ∃ k : Fin K, (Host.topK ⟨3, ![A, N, 1]⟩ 2 (FloatOps.cmpfTotal .gt) x h).2 (ix3 b n 0) = BitVec.ofNat 32 k.val
      ∧ ∀ l, @LE.le EReal _ (x (ix3 b n l)) (x (ix3 b n k)) := by
  refine ⟨_, ?_, first_greatest hK (fun l => x (ix3 b n l))⟩
  have hj : (fun a => ⟨0 + ((ix3 b n 0 : (⟨3, ![A, N, 1]⟩ : Shape).Idx) (a.cast h.1.symm)).val,
      Nat.lt_of_lt_of_le (Nat.add_lt_add_left ((ix3 b n 0 : (⟨3, ![A, N, 1]⟩ : Shape).Idx) _).isLt _) (h.2 a)⟩ :
      (⟨3, ![A, N, K]⟩ : Shape).Idx) = ix3 b n ⟨0, hK⟩ := by
    funext a
    refine Fin.ext ?_
    match a with
    | ⟨0, _⟩ => exact Nat.zero_add _
    | ⟨1, _⟩ => exact Nat.zero_add _
    | ⟨2, _⟩ => rfl
  unfold Host.topK extractStridedSlice
  dsimp only
  rw [hj, sort2_index]
  rfl

end Cert.Chamfer
-- ==== Proof.ReferenceIdeal.Index.lean ====
module

public import proofs.«01_k».proof.Proof.ReferenceIdeal.Terms
public import proofs.«01_k».proof.Proof.ReferenceIdeal.Gather
public import proofs.«01_k».proof.Proof.ReferenceIdeal.TopK
public import proofs.«01_k».proof.Proof.Least
public import Idealize.ShloMosaic.Lib.Pointwise

/-! The point that the reference pairs with a query point: one at which the squared distance is least. -/

@[expose] public section

set_option maxRecDepth 16384

noncomputable section

namespace Cert.ReferenceIdeal.Chamfer

open Idealize.ShloMosaic
open Cert.ReferenceIdeal Cert.ReferenceIdeal.Gen Cert.ReferenceIdeal.Value Cert.Chamfer

/-- A word that holds a small number is not negative. -/
theorem slt_zero {k : Nat} (hk : k < 2 ^ 31) : IntOp.cmpi .slt (BitVec.ofNat 32 k) 0#32 = 0#1 := by
  have h1 : (BitVec.ofNat 32 k).toNat = k := by
    rw [BitVec.toNat_ofNat]; exact Nat.mod_eq_of_lt (by omega)
  have h2 : (BitVec.ofNat 32 k).toInt = (k : Int) := by
    rw [BitVec.toInt_eq_toNat_of_lt (by rw [h1]; omega), h1]
  have h3 : (BitVec.ofNat 32 k).slt 0#32 = false := by
    rw [BitVec.slt, h2]
    exact decide_eq_false (by simp)
  show BitVec.ofBool ((BitVec.ofNat 32 k).slt 0#32) = 0#1
  rw [h3]; rfl

/-- A choice on a word that is not negative keeps the word. -/
theorem keep_word {k : Nat} (hk : k < 2 ^ 31) (w : BitVec 32) :
    Scalar.select (IntOp.cmpi .slt (BitVec.ofNat 32 k) 0#32) w (BitVec.ofNat 32 k) = BitVec.ofNat 32 k := by
  rw [slt_zero hk]; rfl

/-- The batch part of a start index is the query point's own batch. -/
theorem wrapBatch_apply (b : Fin 4) : wrapBatch (ix3 b 0 0) = BitVec.ofNat 32 b.val := by
  unfold wrapBatch batchNo
  pointwise
  exact keep_word (by omega) _

/-- The point part of a start index is the index itself when that is a small number. -/
theorem wrapIdx_apply (i : IVec S4x4096x1 32) (b : Fin 4) (n l : Fin 4096) (h : i (ix3 b n 0) = BitVec.ofNat 32 l.val) :
    wrapIdx i (ix3 b n 0) = BitVec.ofNat 32 l.val := by
  unfold wrapIdx
  pointwise
  rw [h]
  exact keep_word (by omega) _

/-- The first component of a start index is the batch. -/
theorem pairIdx_batch (i : IVec S4x4096x1 32) (b : Fin 4) (n : Fin 4096) :
    pairIdx i (ix4 b n 0 0) = BitVec.ofNat 32 b.val := by
  refine Eq.trans ?_ (wrapBatch_apply b)
  unfold pairIdx fn_main_v30
  pointwise

/-- The second component of a start index is the index of a point. -/
theorem pairIdx_point (i : IVec S4x4096x1 32) (b : Fin 4) (n l : Fin 4096) (h : i (ix3 b n 0) = BitVec.ofNat 32 l.val) :
    pairIdx i (ix4 b n 0 1) = BitVec.ofNat 32 l.val := by
  refine Eq.trans ?_ (wrapIdx_apply i b n l h)
  unfold pairIdx fn_main_v30
  pointwise

/-- The point read is the one whose index is given. -/
theorem pointAt_apply (y : FVec Ideal S4x4096x3 .f32) (i : IVec S4x4096x1 32) (b : Fin 4) (n l : Fin 4096)
    (h : i (ix3 b n 0) = BitVec.ofNat 32 l.val) (k : Fin 3) : pointAt y i (ix4 b n 0 k) = y (ix3 b l k) := by
  have e := gather_point (A := 4) (M := 4096) (N := 4096) (K := 3) gather_S4x4096x3_S4x4096x1x2_S4x4096x1x3_3_01_n_n_01_3_113_wf
    (pairIdx i) b n k y b l (by norm_num) (by norm_num) (pairIdx_batch i b n) (pairIdx_point i b n l h)
  exact e

/-- Where the entries are minus those of a real matrix, the point read is one at which the matrix is least in its row. -/
theorem pointAt_top (y : FVec Ideal S4x4096x3 .f32) (d : FVec Ideal S4x4096x4096 .f32) (D : Fin 4 → Fin 4096 → Fin 4096 → ℝ)
    (hd : ∀ b n l, d (ix3 b n l) = ((-(D b n l) : ℝ) : EReal)) (b : Fin 4) (n : Fin 4096) :
    ∃ l, D b n l = minOf (D b n) ∧ ∀ k, pointAt y (topIdx d) (ix4 b n 0 k) = y (ix3 b l k) := by
  obtain ⟨l, hl, hmax⟩ := topK_greatest (A := 4) (N := 4096) (K := 4096) (by norm_num) d
    sliceFits_S4x4096x4096_S4x4096x1 b n
  refine ⟨l, (minOf_eq (D b n) (D b n l) ⟨l, rfl⟩ fun l' => ?_).symm, pointAt_apply y (topIdx d) b n l hl⟩
  have h := hmax l'
  rw [hd, hd] at h
  have h' := EReal.coe_le_coe_iff.mp h
  linarith

end Cert.ReferenceIdeal.Chamfer
-- ==== Proof.ReferenceIdeal.Value.lean ====
module

public import proofs.«01_k».proof.Proof.ReferenceIdeal.Dist
public import proofs.«01_k».proof.Proof.ReferenceIdeal.Index
public import Idealize.ShloMosaic.Lib.Pointwise

/-! The reference's result when the coordinates are real: the mean, over all points of both clouds, of the distance to
    the nearest point of the other cloud. -/

@[expose] public section

set_option maxRecDepth 16384

noncomputable section

namespace Cert.ReferenceIdeal.Chamfer

open Idealize.ShloMosaic
open Cert.ReferenceIdeal Cert.ReferenceIdeal.Gen Cert.Chamfer

/-- The literal `1/2`. -/
theorem lit_half : Ideal.ofBits .f32 0x3F000000#32 = (((1:ℝ)/2 : ℝ) : EReal) := by
  simp [Ideal.ofBits, Ideal.ieee, -EReal.coe_mul]; norm_num
/-- The literal `16384`. -/
theorem lit_count : Ideal.ofBits .f32 0x46800000#32 = ((16384 : ℝ) : EReal) := by
  simp [Ideal.ofBits, Ideal.ieee, -EReal.coe_mul]; norm_num

/-- An absolute coordinate difference. -/
theorem absDiff_apply (x : FVec Ideal S4x4096x3 .f32) (p : FVec Ideal S4x4096x1x3 .f32) (b : Fin 4) (n : Fin 4096) (k : Fin 3)
    (u v : ℝ) (hu : x (ix3 b n k) = (u : EReal)) (hv : p (ix4 b n 0 k) = (v : EReal)) :
    absDiff x p (ix4 b n 0 k) = ((|u - v| : ℝ) : EReal) := by
  unfold absDiff
  pointwise
  rw [hu, hv]
  show max ((u : EReal) - v) (-((u : EReal) - v)) = _
  rw [← EReal.coe_sub, ← EReal.coe_neg]
  exact (EReal.coe_strictMono.monotone.map_max).symm

/-- The power `1/2` of a real number, over one, is its square root. -/
theorem root_div (z : ℝ) : Ideal.div (Ideal.pow (z : EReal) (((1:ℝ)/2 : ℝ) : EReal)) ((1 : ℝ) : EReal) = ((√z : ℝ) : EReal) := by
  have h : Ideal.pow (z : EReal) (((1:ℝ)/2 : ℝ) : EReal) = ((√z : ℝ) : EReal) := by
    rw [Real.sqrt_eq_rpow]; rfl
  rw [h, Ideal.div_coe one_ne_zero, ← EReal.coe_mul, div_one, mul_one]

/-- The square root of the sum of the squares of three real numbers. -/
theorem rootOf_apply (e : FVec Ideal S4x4096x1x3 .f32) (b : Fin 4) (n : Fin 4096) (w : Fin 3 → ℝ)
    (he : ∀ k, e (ix4 b n 0 k) = (w k : EReal)) :
    rootOf e (ix2 b n) = ((√(w 0 * w 0 + w 1 * w 1 + w 2 * w 2) : ℝ) : EReal) := by
  unfold rootOf
  pointwise
  simp only [he, Fin.sum_univ_three, Ideal.ofBits_zero_f32, lit_half, Ideal.ofBits_one_f32]
  rw [Fin.sum_univ_one]
  simp only [← EReal.coe_add, ← EReal.coe_mul]
  rw [← EReal.coe_one]
  exact root_div _

/-- The distance of a point to the nearest point of the other cloud. -/
theorem nearest_apply (x y : FVec Ideal S4x4096x3 .f32) (X Y : Fin 4 → Fin 4096 → Fin 3 → ℝ)
    (hx : ∀ b n k, x (ix3 b n k) = (X b n k : EReal)) (hy : ∀ b n k, y (ix3 b n k) = (Y b n k : EReal))
    (b : Fin 4) (n : Fin 4096) :
    nearest x y (ix2 b n) = ((√(minOf fun l => distSq (X b n) (Y b l)) : ℝ) : EReal) := by
  obtain ⟨l, hl, hp⟩ := pointAt_top y (negDist x y) (fun b n l => distSq (X b n) (Y b l))
    (negDist_apply x y X Y hx hy) b n
  unfold nearest
  rw [rootOf_apply _ b n (fun k => |X b n k - Y b l k|)
    (fun k => absDiff_apply x _ b n k _ _ (hx b n k) ((hp k).trans (hy b l k)))]
  have h3 : |X b n 0 - Y b l 0| * |X b n 0 - Y b l 0| + |X b n 1 - Y b l 1| * |X b n 1 - Y b l 1|
      + |X b n 2 - Y b l 2| * |X b n 2 - Y b l 2| = distSq (X b n) (Y b l) := by
    simp only [abs_mul_abs_self]
    unfold distSq
    ring
  rw [h3, hl]

/-- The mean of real entries. -/
theorem meanAll_apply (u : FVec Ideal S4x4096 .f32) (U : Fin 4 → Fin 4096 → ℝ)
    (hu : ∀ b n, u (ix2 b n) = (U b n : EReal)) (i : S_.Idx) :
    meanAll u i = (((∑ b, ∑ n, U b n) / 16384 : ℝ) : EReal) := by
  unfold meanAll
  pointwise
  simp only [hu, Ideal.ofBits_zero_f32, lit_count]
  simp only [sum_coe]
  rw [Ideal.div_coe (by norm_num), ← EReal.coe_mul, mul_one_div]

/-- The reference's result on two clouds of real points. -/
theorem chamfer_apply (x y : FVec Ideal S4x4096x3 .f32) (X Y : Fin 4 → Fin 4096 → Fin 3 → ℝ)
    (hx : ∀ b n k, x (ix3 b n k) = (X b n k : EReal)) (hy : ∀ b n k, y (ix3 b n k) = (Y b n k : EReal)) (i : S_.Idx) :
    chamfer x y i = (((∑ b, rowTotal (fun b n l => distSq (X b n) (Y b l)) b
      + ∑ b, colTotal (fun b n l => distSq (X b n) (Y b l)) b) / 16384 : ℝ) : EReal) := by
  unfold chamfer
  rw [meanAll_apply _ (fun b n => √(minOf fun l => distSq (X b n) (Y b l)) + √(minOf fun l => distSq (Y b n) (X b l)))
    (fun b n => ?_) i]
  · congr 2
    rw [← Finset.sum_add_distrib]
    refine Finset.sum_congr rfl fun b _ => ?_
    rw [Finset.sum_add_distrib]
    unfold rowTotal colTotal
    simp only [distSq_comm (Y b _)]
  · show nearest x y (ix2 b n) + nearest y x (ix2 b n) = _
    rw [nearest_apply x y X Y hx hy, nearest_apply y x Y X hy hx, ← EReal.coe_add]

end Cert.ReferenceIdeal.Chamfer
-- ==== Proof.Algebraic.lean ====
module

public import proofs.«01_k».proof.Defs
public import proofs.«01_k».proof.Proof.Finite
public import proofs.«01_k».proof.Proof.KernelIdeal.Result
public import proofs.«01_k».proof.Proof.ReferenceIdeal.Value

/-! Over the extended reals, on real coordinates, the kernel and the reference end with the same number. -/

@[expose] public section

noncomputable section

namespace Cert.Chamfer

open Idealize.ShloMosaic Idealize.ShloMosaic.TcCoe Idealize.SL.Sem

/-- Real coordinates of the three arrays on every device, where the precondition holds. -/
theorem exists_reals (m : (ℓ : Loc KernelIdeal.nD KernelIdeal.τ KernelIdeal.sig) → Buf (Elt Ideal) ℓ)
    (h : letI := Cert.Pre_finite.Gen.facts; Pre_KernelIdeal_finite m) :
    ∃ s t f : Dev KernelIdeal.nD → Fin 4 → Fin 4096 → Fin 3 → ℝ, ∀ c, KernelIdeal.Chamfer.Reals m c (s c) (t c) (f c) := by
  have h1 := fun c => (finite_real _ _ _ (h c)).1
  have h2 := fun c => (finite_real _ _ _ (h c)).2.1
  have h3 := fun c => (finite_real _ _ _ (h c)).2.2
  choose s hs using h1
  choose t ht using h2
  choose f hf using h3
  exact ⟨fun c b n k => s c (ix3 b n k), fun c b n k => t c (ix3 b n k), fun c b n k => f c (ix3 b n k),
    fun c => ⟨fun b n k => hs c _, fun b n k => ht c _, fun b n k => hf c _⟩⟩

/-- The reference's result on arrays of real coordinates is the mean that the kernel writes. -/
theorem reference_value (m' : (ℓ : Loc ReferenceIdeal.nD ReferenceIdeal.τ ReferenceIdeal.sig) → Buf (Elt Ideal) ℓ)
    (c : Dev ReferenceIdeal.nD) (s t f : Fin 4 → Fin 4096 → Fin 3 → ℝ)
    (hs : ∀ b n k, m' ((c.tc : Thread ReferenceIdeal.nD ReferenceIdeal.τ).loc ReferenceIdeal.main_arg0) (ix3 b n k) = (s b n k : EReal))
    (ht : ∀ b n k, m' ((c.tc : Thread ReferenceIdeal.nD ReferenceIdeal.τ).loc ReferenceIdeal.main_arg1) (ix3 b n k) = (t b n k : EReal))
    (hf : ∀ b n k, m' ((c.tc : Thread ReferenceIdeal.nD ReferenceIdeal.τ).loc ReferenceIdeal.main_arg2) (ix3 b n k) = (f b n k : EReal)) :
    ReferenceIdeal.Value.res_main_v85 m' c = fun _ => (KernelIdeal.Chamfer.meanOf s t f : EReal) := by
  rw [ReferenceIdeal.Chamfer.result_eq]
  funext i
  refine (ReferenceIdeal.Chamfer.chamfer_apply _ _ (fun b n k => s b n k + f b n k) t (fun b n k => ?_) ht i).trans rfl
  rw [EReal.coe_add, ← hs, ← hf]
  rfl

/-- The kernel's claim of equal results: on finite arrays both programs end with the same number, their arguments unchanged. -/
theorem algebraic : letI := KernelIdeal.Gen.facts; letI := ReferenceIdeal.Gen.facts; letI := Cert.Pre_finite.Gen.facts
    algebraic_KernelIdeal_ReferenceIdeal_pre_finite := by
  intro m g m' g' hpre hargs
  obtain ⟨s, t, f, hR⟩ := exists_reals m hpre
  refine ⟨fun c _ => (KernelIdeal.Chamfer.meanOf (s c) (t c) (f c) : EReal), KernelIdeal.Chamfer.run_value m g s t f hR, ?_⟩
  refine (θ_run _ _ _).mono (fun r h c => ?_) (ReferenceIdeal.Value.run m' g')
  refine ⟨(h c).1.trans ?_, (h c).2⟩
  exact reference_value m' c (s c) (t c) (f c)
    (fun b n k => (congrFun (hargs c).1 _).trans ((hR c).src b n k))
    (fun b n k => (congrFun (hargs c).2.1 _).trans ((hR c).tgt b n k))
    (fun b n k => (congrFun (hargs c).2.2 _).trans ((hR c).flow b n k))

end Cert.Chamfer
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.Algebraic

/-! The proof of `Cert.Claim`: the frames with and without the precondition, that the idealized kernel keeps the kernel's
    algorithm, and that the idealized kernel and the reference end with the same number. -/

@[expose] public section

noncomputable section

namespace Cert.Proof

theorem claim : Cert.Claim := ⟨Cert.Kernel.Gen.facts, Cert.KernelIdeal.Gen.facts, Cert.ReferenceIdeal.Gen.facts,
  Cert.Pre_finite.Gen.facts,
  Cert.Chamfer.frame_kernel,
  Cert.Chamfer.frame_kernelIdeal, fun m ρ _ => Cert.Chamfer.frame_kernelIdeal m ρ trivial,
  Cert.Chamfer.frame_reference, fun m ρ _ => Cert.Chamfer.frame_reference m ρ trivial,
  trivial, Cert.Chamfer.algebraic⟩

end Cert.Proof

end
